-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_bounds [hPre_uniform_bounds : Cert.Pre_uniform_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_bounds [hPre_uniform_bounds : Cert.Pre_uniform_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_uniform_bounds [hKernelIdeal : Cert.KernelIdeal.Facts] [hPre_uniform_bounds : Cert.Pre_uniform_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_bounds m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_uniform_bounds [hReferenceIdeal : Cert.ReferenceIdeal.Facts] [hPre_uniform_bounds : Cert.Pre_uniform_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_uniform_bounds [hKernelIdeal : Cert.KernelIdeal.Facts] [hReferenceIdeal : Cert.ReferenceIdeal.Facts] [hPre_uniform_bounds : Cert.Pre_uniform_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_bounds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_uniform_bounds : Cert.Pre_uniform_bounds.Facts),
    quiescent_Kernel (hKernel := hKernel)
    ∧ quiescent_KernelIdeal (hKernelIdeal := hKernelIdeal)
    ∧ quiescent_KernelIdeal_pre_uniform_bounds (hKernelIdeal := hKernelIdeal) (hPre_uniform_bounds := hPre_uniform_bounds)
    ∧ quiescent_ReferenceIdeal (hReferenceIdeal := hReferenceIdeal)
    ∧ quiescent_ReferenceIdeal_pre_uniform_bounds (hReferenceIdeal := hReferenceIdeal) (hPre_uniform_bounds := hPre_uniform_bounds)
    ∧ preserves_Kernel_KernelIdeal
    ∧ algebraic_KernelIdeal_ReferenceIdeal_pre_uniform_bounds (hKernelIdeal := hKernelIdeal) (hReferenceIdeal := hReferenceIdeal) (hPre_uniform_bounds := hPre_uniform_bounds)
-- ==== Pre_uniform_bounds.lean ====
abbrev S131072x64 : Shape := ⟨2, ![131072, 64]⟩
abbrev S131072 : Shape := ⟨1, ![131072]⟩
abbrev S64 : Shape := ⟨1, ![64]⟩
abbrev S1 : Shape := ⟨1, ![1]⟩
abbrev S_ : Shape := ⟨0, ![]⟩

class Facts : Prop where
  slices_S64_S1_0 : S64.Slices ![0] S1
  shapeCasts_S1_S_ : S1.ShapeCasts S_
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S131072x64 .f32) (main_arg1 : FVec F S131072 .f32) (main_arg2 : FVec F S64 .f32) (main_arg3 : FVec F S64 .f32) : IVec S_ 1 :=
  let main_v0 : FVec F S1 .f32 := (extractStridedSlice S1 ![0] · slices_S64_S1_0) main_arg2
  let main_v1 : FVec F S_ .f32 := shapeCast S_ main_v0 shapeCasts_S1_S_
  let main_v2 : FVec F S64 .f32 := broadcastInDim S64 ![] bcast_S_S64 main_v1
  let main_v3 : IVec S64 1 := cmpf .oeq main_arg2 main_v2
  let main_c : IVec S_ 1 := constantI S_ 1 1#1
  let main_v4 : IVec S_ 1 := (fun x v => Host.reduce IntOp.andi x v reducesTo_S64_S_d0 h_S_) main_v3 main_c
  let main_v5 : FVec F S1 .f32 := (extractStridedSlice S1 ![0] · slices_S64_S1_0) main_arg3
  let main_v6 : FVec F S_ .f32 := shapeCast S_ main_v5 shapeCasts_S1_S_
  let main_v7 : FVec F S64 .f32 := broadcastInDim S64 ![] bcast_S_S64 main_v6
  let main_v8 : IVec S64 1 := cmpf .oeq main_arg3 main_v7
  let main_c_0 : IVec S_ 1 := constantI S_ 1 1#1
  let main_v9 : IVec S_ 1 := (fun x v => Host.reduce IntOp.andi x v reducesTo_S64_S_d0 h_S_) main_v8 main_c_0
  let main_v10 : IVec S_ 1 := andi main_v4 main_v9
  main_v10
-- ==== Kernel.lean ====
abbrev S131072x64 : Shape := ⟨2, ![131072, 64]⟩
abbrev S131072 : Shape := ⟨1, ![131072]⟩
abbrev S64 : Shape := ⟨1, ![64]⟩
abbrev S64x131072 : Shape := ⟨2, ![64, 131072]⟩
abbrev S1x131072 : Shape := ⟨2, ![1, 131072]⟩
abbrev S1x64 : Shape := ⟨2, ![1, 64]⟩
abbrev S64x32768 : Shape := ⟨2, ![64, 32768]⟩
abbrev S64x512 : Shape := ⟨2, ![64, 512]⟩
abbrev S512 : Shape := ⟨1, ![512]⟩
abbrev S_ : Shape := ⟨0, ![]⟩
abbrev S16 : Shape := ⟨1, ![16]⟩
abbrev S1x16 : Shape := ⟨2, ![1, 16]⟩
abbrev S64x4096 : Shape := ⟨2, ![64, 4096]⟩
abbrev S1x4096 : Shape := ⟨2, ![1, 4096]⟩
abbrev S1x1 : Shape := ⟨2, ![1, 1]⟩
abbrev S4096 : Shape := ⟨1, ![4096]⟩

abbrev nBuf : Table → Nat
  | .hbm => 14
  | .local .tc .vmem => 8
  | .local .scVector .vmem => 4
  | _ => 0

abbrev bufTy : (tb : Table) → Fin (nBuf tb) → BufTy
  | .hbm, ⟨0, _⟩ => ⟨S131072x64, .f32⟩
  | .hbm, ⟨1, _⟩ => ⟨S131072, .f32⟩
  | .hbm, ⟨2, _⟩ => ⟨S64, .f32⟩
  | .hbm, ⟨3, _⟩ => ⟨S64, .f32⟩
  | .hbm, ⟨4, _⟩ => ⟨S64x131072, .f32⟩
  | .hbm, ⟨5, _⟩ => ⟨S1x131072, .f32⟩
  | .hbm, ⟨6, _⟩ => ⟨S1x64, .f32⟩
  | .hbm, ⟨7, _⟩ => ⟨S1x64, .f32⟩
  | .hbm, ⟨8, _⟩ => ⟨S64x32768, .f32⟩
  | .hbm, ⟨9, _⟩ => ⟨S64x131072, .f32⟩
  | .hbm, ⟨10, _⟩ => ⟨S_, .i32⟩
  | .hbm, ⟨11, _⟩ => ⟨S_, .i32⟩
  | .hbm, ⟨12, _⟩ => ⟨S64x131072, .f32⟩
  | .hbm, ⟨13, _⟩ => ⟨S131072x64, .f32⟩
  | .local .tc .vmem, ⟨0, _⟩ => ⟨S64x4096, .f32⟩
  | .local .tc .vmem, ⟨1, _⟩ => ⟨S64x4096, .f32⟩
  | .local .tc .vmem, ⟨2, _⟩ => ⟨S1x4096, .f32⟩
  | .local .tc .vmem, ⟨3, _⟩ => ⟨S1x4096, .f32⟩
  | .local .tc .vmem, ⟨4, _⟩ => ⟨S1x64, .f32⟩
  | .local .tc .vmem, ⟨5, _⟩ => ⟨S1x64, .f32⟩
  | .local .tc .vmem, ⟨6, _⟩ => ⟨S64x4096, .f32⟩
  | .local .tc .vmem, ⟨7, _⟩ => ⟨S64x4096, .f32⟩
  | .local .scVector .vmem, ⟨0, _⟩ => ⟨S64x512, .f32⟩
  | .local .scVector .vmem, ⟨1, _⟩ => ⟨S512, .f32⟩
  | .local .scVector .vmem, ⟨2, _⟩ => ⟨S64, .f32⟩
  | .local .scVector .vmem, ⟨3, _⟩ => ⟨S64, .f32⟩
  | _, _ => ⟨S131072x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v0_scv : Ref sig .scVector := ⟨.hbm, 4, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v4_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_4 : BitVec 32 := 0#32
  let c2_i32_5 : BitVec 32 := 2#32
  let v11 : BitVec 32 := Scalar.addi c0_i32_4 c2_i32_5
  let c1_i32 : BitVec 32 := 1#32
  ⟨c0_i32_4, v11, c1_i32⟩
def k0_off1 (i : grid0.Coords) (k0_t1 : Fin k0_t1_loop.trips) : Fin 2 → Nat :=
  let c0_i32_11_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v12 : BitVec 32 := Scalar.muli v1 c1024_i32
  let c0_i32_4 : BitVec 32 := 0#32
  let c1_i32 : BitVec 32 := 1#32
  let arg11 : BitVec 32 := Scf.iv c0_i32_4 c1_i32 k0_t1
  let c512_i32 : BitVec 32 := 512#32
  let v13 : BitVec 32 := Scalar.muli arg11 c512_i32
  let v14 : BitVec 32 := Scalar.addi v12 v13
  ![0, v14.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v12 : BitVec 32 := Scalar.muli v1 c1024_i32
  let c0_i32_4 : BitVec 32 := 0#32
  let c1_i32 : BitVec 32 := 1#32
  let arg11 : BitVec 32 := Scf.iv c0_i32_4 c1_i32 k0_t1
  let c512_i32 : BitVec 32 := 512#32
  let v13 : BitVec 32 := Scalar.muli arg11 c512_i32
  let v14 : BitVec 32 := Scalar.addi v12 v13
  ![v14.toNat]
@[reducible] def k0_t2_loop : Scf.Loop 32 :=
  let c0_i32_8 : BitVec 32 := 0#32
  let c16_i32 : BitVec 32 := 16#32
  let v15 : BitVec 32 := Scalar.addi c0_i32_8 c16_i32
  let c1_i32_9 : BitVec 32 := 1#32
  ⟨c0_i32_8, v15, c1_i32_9⟩
def k0_off3 (k0_t2 : Fin k0_t2_loop.trips) : Fin 2 → Nat :=
  let c0_i32_11 : BitVec 32 := 0#32
  let v17 : Index := Scalar.indexCast c0_i32_11
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v18 : Index := Scalar.indexCast v16
  ![0, v18.toNat]
def k0_off4 (k0_t2 : Fin k0_t2_loop.trips) : Fin 2 → Nat :=
  let c1_i32_12 : BitVec 32 := 1#32
  let v20 : Index := Scalar.indexCast c1_i32_12
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v21 : Index := Scalar.indexCast v16
  ![1, v21.toNat]
def k0_off5 (k0_t2 : Fin k0_t2_loop.trips) : Fin 2 → Nat :=
  let c2_i32_13 : BitVec 32 := 2#32
  let v23 : Index := Scalar.indexCast c2_i32_13
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v24 : Index := Scalar.indexCast v16
  ![2, v24.toNat]
def k0_off6 (k0_t2 : Fin k0_t2_loop.trips) : Fin 2 → Nat :=
  let c3_i32 : BitVec 32 := 3#32
  let v26 : Index := Scalar.indexCast c3_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v27 : Index := Scalar.indexCast v16
  ![3, v27.toNat]
def k0_off7 (k0_t2 : Fin k0_t2_loop.trips) : Fin 2 → Nat :=
  let c4_i32 : BitVec 32 := 4#32
  let v29 : Index := Scalar.indexCast c4_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v30 : Index := Scalar.indexCast v16
  ![4, v30.toNat]
def k0_off8 (k0_t2 : Fin k0_t2_loop.trips) : Fin 2 → Nat :=
  let c5_i32 : BitVec 32 := 5#32
  let v33 : Index := Scalar.indexCast c5_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v34 : Index := Scalar.indexCast v16
  ![5, v34.toNat]
def k0_off9 (k0_t2 : Fin k0_t2_loop.trips) : Fin 2 → Nat :=
  let c6_i32 : BitVec 32 := 6#32
  let v37 : Index := Scalar.indexCast c6_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v38 : Index := Scalar.indexCast v16
  ![6, v38.toNat]
def k0_off10 (k0_t2 : Fin k0_t2_loop.trips) : Fin 2 → Nat :=
  let c7_i32 : BitVec 32 := 7#32
  let v41 : Index := Scalar.indexCast c7_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v42 : Index := Scalar.indexCast v16
  ![7, v42.toNat]
def k0_off11 (k0_t2 : Fin k0_t2_loop.trips) : Fin 2 → Nat :=
  let c8_i32 : BitVec 32 := 8#32
  let v45 : Index := Scalar.indexCast c8_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v46 : Index := Scalar.indexCast v16
  ![8, v46.toNat]
def k0_off12 (k0_t2 : Fin k0_t2_loop.trips) : Fin 2 → Nat :=
  let c9_i32 : BitVec 32 := 9#32
  let v49 : Index := Scalar.indexCast c9_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v50 : Index := Scalar.indexCast v16
  ![9, v50.toNat]
def k0_off13 (k0_t2 : Fin k0_t2_loop.trips) : Fin 2 → Nat :=
  let c10_i32 : BitVec 32 := 10#32
  let v53 : Index := Scalar.indexCast c10_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v54 : Index := Scalar.indexCast v16
  ![10, v54.toNat]
def k0_off14 (k0_t2 : Fin k0_t2_loop.trips) : Fin 2 → Nat :=
  let c11_i32 : BitVec 32 := 11#32
  let v57 : Index := Scalar.indexCast c11_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v58 : Index := Scalar.indexCast v16
  ![11, v58.toNat]
def k0_off15 (k0_t2 : Fin k0_t2_loop.trips) : Fin 2 → Nat :=
  let c12_i32 : BitVec 32 := 12#32
  let v61 : Index := Scalar.indexCast c12_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v62 : Index := Scalar.indexCast v16
  ![12, v62.toNat]
def k0_off16 (k0_t2 : Fin k0_t2_loop.trips) : Fin 2 → Nat :=
  let c13_i32 : BitVec 32 := 13#32
  let v65 : Index := Scalar.indexCast c13_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v66 : Index := Scalar.indexCast v16
  ![13, v66.toNat]
def k0_off17 (k0_t2 : Fin k0_t2_loop.trips) : Fin 2 → Nat :=
  let c14_i32 : BitVec 32 := 14#32
  let v69 : Index := Scalar.indexCast c14_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v70 : Index := Scalar.indexCast v16
  ![14, v70.toNat]
def k0_off18 (k0_t2 : Fin k0_t2_loop.trips) : Fin 2 → Nat :=
  let c15_i32 : BitVec 32 := 15#32
  let v73 : Index := Scalar.indexCast c15_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v74 : Index := Scalar.indexCast v16
  ![15, v74.toNat]
def k0_off19 (k0_t2 : Fin k0_t2_loop.trips) : Fin 2 → Nat :=
  let c16_i32_14 : BitVec 32 := 16#32
  let v77 : Index := Scalar.indexCast c16_i32_14
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v78 : Index := Scalar.indexCast v16
  ![16, v78.toNat]
def k0_off20 (k0_t2 : Fin k0_t2_loop.trips) : Fin 2 → Nat :=
  let c17_i32 : BitVec 32 := 17#32
  let v81 : Index := Scalar.indexCast c17_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v82 : Index := Scalar.indexCast v16
  ![17, v82.toNat]
def k0_off21 (k0_t2 : Fin k0_t2_loop.trips) : Fin 2 → Nat :=
  let c18_i32 : BitVec 32 := 18#32
  let v85 : Index := Scalar.indexCast c18_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v86 : Index := Scalar.indexCast v16
  ![18, v86.toNat]
def k0_off22 (k0_t2 : Fin k0_t2_loop.trips) : Fin 2 → Nat :=
  let c19_i32 : BitVec 32 := 19#32
  let v89 : Index := Scalar.indexCast c19_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v90 : Index := Scalar.indexCast v16
  ![19, v90.toNat]
def k0_off23 (k0_t2 : Fin k0_t2_loop.trips) : Fin 2 → Nat :=
  let c20_i32 : BitVec 32 := 20#32
  let v93 : Index := Scalar.indexCast c20_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v94 : Index := Scalar.indexCast v16
  ![20, v94.toNat]
def k0_off24 (k0_t2 : Fin k0_t2_loop.trips) : Fin 2 → Nat :=
  let c21_i32 : BitVec 32 := 21#32
  let v97 : Index := Scalar.indexCast c21_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v98 : Index := Scalar.indexCast v16
  ![21, v98.toNat]
def k0_off25 (k0_t2 : Fin k0_t2_loop.trips) : Fin 2 → Nat :=
  let c22_i32 : BitVec 32 := 22#32
  let v101 : Index := Scalar.indexCast c22_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v102 : Index := Scalar.indexCast v16
  ![22, v102.toNat]
def k0_off26 (k0_t2 : Fin k0_t2_loop.trips) : Fin 2 → Nat :=
  let c23_i32 : BitVec 32 := 23#32
  let v105 : Index := Scalar.indexCast c23_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v106 : Index := Scalar.indexCast v16
  ![23, v106.toNat]
def k0_off27 (k0_t2 : Fin k0_t2_loop.trips) : Fin 2 → Nat :=
  let c24_i32 : BitVec 32 := 24#32
  let v109 : Index := Scalar.indexCast c24_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v110 : Index := Scalar.indexCast v16
  ![24, v110.toNat]
def k0_off28 (k0_t2 : Fin k0_t2_loop.trips) : Fin 2 → Nat :=
  let c25_i32 : BitVec 32 := 25#32
  let v113 : Index := Scalar.indexCast c25_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v114 : Index := Scalar.indexCast v16
  ![25, v114.toNat]
def k0_off29 (k0_t2 : Fin k0_t2_loop.trips) : Fin 2 → Nat :=
  let c26_i32 : BitVec 32 := 26#32
  let v117 : Index := Scalar.indexCast c26_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v118 : Index := Scalar.indexCast v16
  ![26, v118.toNat]
def k0_off30 (k0_t2 : Fin k0_t2_loop.trips) : Fin 2 → Nat :=
  let c27_i32 : BitVec 32 := 27#32
  let v121 : Index := Scalar.indexCast c27_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v122 : Index := Scalar.indexCast v16
  ![27, v122.toNat]
def k0_off31 (k0_t2 : Fin k0_t2_loop.trips) : Fin 2 → Nat :=
  let c28_i32 : BitVec 32 := 28#32
  let v125 : Index := Scalar.indexCast c28_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v126 : Index := Scalar.indexCast v16
  ![28, v126.toNat]
def k0_off32 (k0_t2 : Fin k0_t2_loop.trips) : Fin 2 → Nat :=
  let c29_i32 : BitVec 32 := 29#32
  let v129 : Index := Scalar.indexCast c29_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v130 : Index := Scalar.indexCast v16
  ![29, v130.toNat]
def k0_off33 (k0_t2 : Fin k0_t2_loop.trips) : Fin 2 → Nat :=
  let c30_i32 : BitVec 32 := 30#32
  let v133 : Index := Scalar.indexCast c30_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v134 : Index := Scalar.indexCast v16
  ![30, v134.toNat]
def k0_off34 (k0_t2 : Fin k0_t2_loop.trips) : Fin 2 → Nat :=
  let c31_i32 : BitVec 32 := 31#32
  let v137 : Index := Scalar.indexCast c31_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v138 : Index := Scalar.indexCast v16
  ![31, v138.toNat]
def k0_off35 (k0_t2 : Fin k0_t2_loop.trips) : Fin 2 → Nat :=
  let c32_i32_15 : BitVec 32 := 32#32
  let v141 : Index := Scalar.indexCast c32_i32_15
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v142 : Index := Scalar.indexCast v16
  ![32, v142.toNat]
def k0_off36 (k0_t2 : Fin k0_t2_loop.trips) : Fin 2 → Nat :=
  let c33_i32 : BitVec 32 := 33#32
  let v145 : Index := Scalar.indexCast c33_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v146 : Index := Scalar.indexCast v16
  ![33, v146.toNat]
def k0_off37 (k0_t2 : Fin k0_t2_loop.trips) : Fin 2 → Nat :=
  let c34_i32 : BitVec 32 := 34#32
  let v149 : Index := Scalar.indexCast c34_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v150 : Index := Scalar.indexCast v16
  ![34, v150.toNat]
def k0_off38 (k0_t2 : Fin k0_t2_loop.trips) : Fin 2 → Nat :=
  let c35_i32 : BitVec 32 := 35#32
  let v153 : Index := Scalar.indexCast c35_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v154 : Index := Scalar.indexCast v16
  ![35, v154.toNat]
def k0_off39 (k0_t2 : Fin k0_t2_loop.trips) : Fin 2 → Nat :=
  let c36_i32 : BitVec 32 := 36#32
  let v157 : Index := Scalar.indexCast c36_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v158 : Index := Scalar.indexCast v16
  ![36, v158.toNat]
def k0_off40 (k0_t2 : Fin k0_t2_loop.trips) : Fin 2 → Nat :=
  let c37_i32 : BitVec 32 := 37#32
  let v161 : Index := Scalar.indexCast c37_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v162 : Index := Scalar.indexCast v16
  ![37, v162.toNat]
def k0_off41 (k0_t2 : Fin k0_t2_loop.trips) : Fin 2 → Nat :=
  let c38_i32 : BitVec 32 := 38#32
  let v165 : Index := Scalar.indexCast c38_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v166 : Index := Scalar.indexCast v16
  ![38, v166.toNat]
def k0_off42 (k0_t2 : Fin k0_t2_loop.trips) : Fin 2 → Nat :=
  let c39_i32 : BitVec 32 := 39#32
  let v169 : Index := Scalar.indexCast c39_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v170 : Index := Scalar.indexCast v16
  ![39, v170.toNat]
def k0_off43 (k0_t2 : Fin k0_t2_loop.trips) : Fin 2 → Nat :=
  let c40_i32 : BitVec 32 := 40#32
  let v173 : Index := Scalar.indexCast c40_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v174 : Index := Scalar.indexCast v16
  ![40, v174.toNat]
def k0_off44 (k0_t2 : Fin k0_t2_loop.trips) : Fin 2 → Nat :=
  let c41_i32 : BitVec 32 := 41#32
  let v177 : Index := Scalar.indexCast c41_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v178 : Index := Scalar.indexCast v16
  ![41, v178.toNat]
def k0_off45 (k0_t2 : Fin k0_t2_loop.trips) : Fin 2 → Nat :=
  let c42_i32 : BitVec 32 := 42#32
  let v181 : Index := Scalar.indexCast c42_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v182 : Index := Scalar.indexCast v16
  ![42, v182.toNat]
def k0_off46 (k0_t2 : Fin k0_t2_loop.trips) : Fin 2 → Nat :=
  let c43_i32 : BitVec 32 := 43#32
  let v185 : Index := Scalar.indexCast c43_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v186 : Index := Scalar.indexCast v16
  ![43, v186.toNat]
def k0_off47 (k0_t2 : Fin k0_t2_loop.trips) : Fin 2 → Nat :=
  let c44_i32 : BitVec 32 := 44#32
  let v189 : Index := Scalar.indexCast c44_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v190 : Index := Scalar.indexCast v16
  ![44, v190.toNat]
def k0_off48 (k0_t2 : Fin k0_t2_loop.trips) : Fin 2 → Nat :=
  let c45_i32 : BitVec 32 := 45#32
  let v193 : Index := Scalar.indexCast c45_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v194 : Index := Scalar.indexCast v16
  ![45, v194.toNat]
def k0_off49 (k0_t2 : Fin k0_t2_loop.trips) : Fin 2 → Nat :=
  let c46_i32 : BitVec 32 := 46#32
  let v197 : Index := Scalar.indexCast c46_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v198 : Index := Scalar.indexCast v16
  ![46, v198.toNat]
def k0_off50 (k0_t2 : Fin k0_t2_loop.trips) : Fin 2 → Nat :=
  let c47_i32 : BitVec 32 := 47#32
  let v201 : Index := Scalar.indexCast c47_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v202 : Index := Scalar.indexCast v16
  ![47, v202.toNat]
def k0_off51 (k0_t2 : Fin k0_t2_loop.trips) : Fin 2 → Nat :=
  let c48_i32 : BitVec 32 := 48#32
  let v205 : Index := Scalar.indexCast c48_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v206 : Index := Scalar.indexCast v16
  ![48, v206.toNat]
def k0_off52 (k0_t2 : Fin k0_t2_loop.trips) : Fin 2 → Nat :=
  let c49_i32 : BitVec 32 := 49#32
  let v209 : Index := Scalar.indexCast c49_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v210 : Index := Scalar.indexCast v16
  ![49, v210.toNat]
def k0_off53 (k0_t2 : Fin k0_t2_loop.trips) : Fin 2 → Nat :=
  let c50_i32 : BitVec 32 := 50#32
  let v213 : Index := Scalar.indexCast c50_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v214 : Index := Scalar.indexCast v16
  ![50, v214.toNat]
def k0_off54 (k0_t2 : Fin k0_t2_loop.trips) : Fin 2 → Nat :=
  let c51_i32 : BitVec 32 := 51#32
  let v217 : Index := Scalar.indexCast c51_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v218 : Index := Scalar.indexCast v16
  ![51, v218.toNat]
def k0_off55 (k0_t2 : Fin k0_t2_loop.trips) : Fin 2 → Nat :=
  let c52_i32 : BitVec 32 := 52#32
  let v221 : Index := Scalar.indexCast c52_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v222 : Index := Scalar.indexCast v16
  ![52, v222.toNat]
def k0_off56 (k0_t2 : Fin k0_t2_loop.trips) : Fin 2 → Nat :=
  let c53_i32 : BitVec 32 := 53#32
  let v225 : Index := Scalar.indexCast c53_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v226 : Index := Scalar.indexCast v16
  ![53, v226.toNat]
def k0_off57 (k0_t2 : Fin k0_t2_loop.trips) : Fin 2 → Nat :=
  let c54_i32 : BitVec 32 := 54#32
  let v229 : Index := Scalar.indexCast c54_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v230 : Index := Scalar.indexCast v16
  ![54, v230.toNat]
def k0_off58 (k0_t2 : Fin k0_t2_loop.trips) : Fin 2 → Nat :=
  let c55_i32 : BitVec 32 := 55#32
  let v233 : Index := Scalar.indexCast c55_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v234 : Index := Scalar.indexCast v16
  ![55, v234.toNat]
def k0_off59 (k0_t2 : Fin k0_t2_loop.trips) : Fin 2 → Nat :=
  let c56_i32 : BitVec 32 := 56#32
  let v237 : Index := Scalar.indexCast c56_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v238 : Index := Scalar.indexCast v16
  ![56, v238.toNat]
def k0_off60 (k0_t2 : Fin k0_t2_loop.trips) : Fin 2 → Nat :=
  let c57_i32 : BitVec 32 := 57#32
  let v241 : Index := Scalar.indexCast c57_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v242 : Index := Scalar.indexCast v16
  ![57, v242.toNat]
def k0_off61 (k0_t2 : Fin k0_t2_loop.trips) : Fin 2 → Nat :=
  let c58_i32 : BitVec 32 := 58#32
  let v245 : Index := Scalar.indexCast c58_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v246 : Index := Scalar.indexCast v16
  ![58, v246.toNat]
def k0_off62 (k0_t2 : Fin k0_t2_loop.trips) : Fin 2 → Nat :=
  let c59_i32 : BitVec 32 := 59#32
  let v249 : Index := Scalar.indexCast c59_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v250 : Index := Scalar.indexCast v16
  ![59, v250.toNat]
def k0_off63 (k0_t2 : Fin k0_t2_loop.trips) : Fin 2 → Nat :=
  let c60_i32 : BitVec 32 := 60#32
  let v253 : Index := Scalar.indexCast c60_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v254 : Index := Scalar.indexCast v16
  ![60, v254.toNat]
def k0_off64 (k0_t2 : Fin k0_t2_loop.trips) : Fin 2 → Nat :=
  let c61_i32 : BitVec 32 := 61#32
  let v257 : Index := Scalar.indexCast c61_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v258 : Index := Scalar.indexCast v16
  ![61, v258.toNat]
def k0_off65 (k0_t2 : Fin k0_t2_loop.trips) : Fin 2 → Nat :=
  let c62_i32 : BitVec 32 := 62#32
  let v261 : Index := Scalar.indexCast c62_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v262 : Index := Scalar.indexCast v16
  ![62, v262.toNat]
def k0_off66 (k0_t2 : Fin k0_t2_loop.trips) : Fin 2 → Nat :=
  let c63_i32 : BitVec 32 := 63#32
  let v265 : Index := Scalar.indexCast c63_i32
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v266 : Index := Scalar.indexCast v16
  ![63, v266.toNat]
def k0_off67 (k0_t2 : Fin k0_t2_loop.trips) : Fin 1 → Nat :=
  let c0_i32_8 : BitVec 32 := 0#32
  let c1_i32_9 : BitVec 32 := 1#32
  let arg12 : BitVec 32 := Scf.iv c0_i32_8 c1_i32_9 k0_t2
  let c32_i32 : BitVec 32 := 32#32
  let v16 : BitVec 32 := Scalar.muli arg12 c32_i32
  let v272 : Index := Scalar.indexCast v16
  ![v272.toNat]
def k0_off68 (k0_t2 : Fin k0_t2_loop.trips) : Fin 2 → Nat :=
  let c0_i32_151 : BitVec 32 := 0#32
  let v819 : Index := Scalar.indexCast c0_i32_151
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v820 : Index := Scalar.indexCast v818
  ![0, v820.toNat]
def k0_off69 (k0_t2 : Fin k0_t2_loop.trips) : Fin 2 → Nat :=
  let c1_i32_152 : BitVec 32 := 1#32
  let v822 : Index := Scalar.indexCast c1_i32_152
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v823 : Index := Scalar.indexCast v818
  ![1, v823.toNat]
def k0_off70 (k0_t2 : Fin k0_t2_loop.trips) : Fin 2 → Nat :=
  let c2_i32_153 : BitVec 32 := 2#32
  let v825 : Index := Scalar.indexCast c2_i32_153
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v826 : Index := Scalar.indexCast v818
  ![2, v826.toNat]
def k0_off71 (k0_t2 : Fin k0_t2_loop.trips) : Fin 2 → Nat :=
  let c3_i32_154 : BitVec 32 := 3#32
  let v828 : Index := Scalar.indexCast c3_i32_154
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v829 : Index := Scalar.indexCast v818
  ![3, v829.toNat]
def k0_off72 (k0_t2 : Fin k0_t2_loop.trips) : Fin 2 → Nat :=
  let c4_i32_155 : BitVec 32 := 4#32
  let v831 : Index := Scalar.indexCast c4_i32_155
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v832 : Index := Scalar.indexCast v818
  ![4, v832.toNat]
def k0_off73 (k0_t2 : Fin k0_t2_loop.trips) : Fin 2 → Nat :=
  let c5_i32_156 : BitVec 32 := 5#32
  let v835 : Index := Scalar.indexCast c5_i32_156
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v836 : Index := Scalar.indexCast v818
  ![5, v836.toNat]
def k0_off74 (k0_t2 : Fin k0_t2_loop.trips) : Fin 2 → Nat :=
  let c6_i32_157 : BitVec 32 := 6#32
  let v839 : Index := Scalar.indexCast c6_i32_157
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v840 : Index := Scalar.indexCast v818
  ![6, v840.toNat]
def k0_off75 (k0_t2 : Fin k0_t2_loop.trips) : Fin 2 → Nat :=
  let c7_i32_158 : BitVec 32 := 7#32
  let v843 : Index := Scalar.indexCast c7_i32_158
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v844 : Index := Scalar.indexCast v818
  ![7, v844.toNat]
def k0_off76 (k0_t2 : Fin k0_t2_loop.trips) : Fin 2 → Nat :=
  let c8_i32_159 : BitVec 32 := 8#32
  let v847 : Index := Scalar.indexCast c8_i32_159
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v848 : Index := Scalar.indexCast v818
  ![8, v848.toNat]
def k0_off77 (k0_t2 : Fin k0_t2_loop.trips) : Fin 2 → Nat :=
  let c9_i32_160 : BitVec 32 := 9#32
  let v851 : Index := Scalar.indexCast c9_i32_160
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v852 : Index := Scalar.indexCast v818
  ![9, v852.toNat]
def k0_off78 (k0_t2 : Fin k0_t2_loop.trips) : Fin 2 → Nat :=
  let c10_i32_161 : BitVec 32 := 10#32
  let v855 : Index := Scalar.indexCast c10_i32_161
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v856 : Index := Scalar.indexCast v818
  ![10, v856.toNat]
def k0_off79 (k0_t2 : Fin k0_t2_loop.trips) : Fin 2 → Nat :=
  let c11_i32_162 : BitVec 32 := 11#32
  let v859 : Index := Scalar.indexCast c11_i32_162
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v860 : Index := Scalar.indexCast v818
  ![11, v860.toNat]
def k0_off80 (k0_t2 : Fin k0_t2_loop.trips) : Fin 2 → Nat :=
  let c12_i32_163 : BitVec 32 := 12#32
  let v863 : Index := Scalar.indexCast c12_i32_163
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v864 : Index := Scalar.indexCast v818
  ![12, v864.toNat]
def k0_off81 (k0_t2 : Fin k0_t2_loop.trips) : Fin 2 → Nat :=
  let c13_i32_164 : BitVec 32 := 13#32
  let v867 : Index := Scalar.indexCast c13_i32_164
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v868 : Index := Scalar.indexCast v818
  ![13, v868.toNat]
def k0_off82 (k0_t2 : Fin k0_t2_loop.trips) : Fin 2 → Nat :=
  let c14_i32_165 : BitVec 32 := 14#32
  let v871 : Index := Scalar.indexCast c14_i32_165
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v872 : Index := Scalar.indexCast v818
  ![14, v872.toNat]
def k0_off83 (k0_t2 : Fin k0_t2_loop.trips) : Fin 2 → Nat :=
  let c15_i32_166 : BitVec 32 := 15#32
  let v875 : Index := Scalar.indexCast c15_i32_166
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v876 : Index := Scalar.indexCast v818
  ![15, v876.toNat]
def k0_off84 (k0_t2 : Fin k0_t2_loop.trips) : Fin 2 → Nat :=
  let c16_i32_167 : BitVec 32 := 16#32
  let v879 : Index := Scalar.indexCast c16_i32_167
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v880 : Index := Scalar.indexCast v818
  ![16, v880.toNat]
def k0_off85 (k0_t2 : Fin k0_t2_loop.trips) : Fin 2 → Nat :=
  let c17_i32_168 : BitVec 32 := 17#32
  let v883 : Index := Scalar.indexCast c17_i32_168
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v884 : Index := Scalar.indexCast v818
  ![17, v884.toNat]
def k0_off86 (k0_t2 : Fin k0_t2_loop.trips) : Fin 2 → Nat :=
  let c18_i32_169 : BitVec 32 := 18#32
  let v887 : Index := Scalar.indexCast c18_i32_169
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v888 : Index := Scalar.indexCast v818
  ![18, v888.toNat]
def k0_off87 (k0_t2 : Fin k0_t2_loop.trips) : Fin 2 → Nat :=
  let c19_i32_170 : BitVec 32 := 19#32
  let v891 : Index := Scalar.indexCast c19_i32_170
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v892 : Index := Scalar.indexCast v818
  ![19, v892.toNat]
def k0_off88 (k0_t2 : Fin k0_t2_loop.trips) : Fin 2 → Nat :=
  let c20_i32_171 : BitVec 32 := 20#32
  let v895 : Index := Scalar.indexCast c20_i32_171
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v896 : Index := Scalar.indexCast v818
  ![20, v896.toNat]
def k0_off89 (k0_t2 : Fin k0_t2_loop.trips) : Fin 2 → Nat :=
  let c21_i32_172 : BitVec 32 := 21#32
  let v899 : Index := Scalar.indexCast c21_i32_172
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v900 : Index := Scalar.indexCast v818
  ![21, v900.toNat]
def k0_off90 (k0_t2 : Fin k0_t2_loop.trips) : Fin 2 → Nat :=
  let c22_i32_173 : BitVec 32 := 22#32
  let v903 : Index := Scalar.indexCast c22_i32_173
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v904 : Index := Scalar.indexCast v818
  ![22, v904.toNat]
def k0_off91 (k0_t2 : Fin k0_t2_loop.trips) : Fin 2 → Nat :=
  let c23_i32_174 : BitVec 32 := 23#32
  let v907 : Index := Scalar.indexCast c23_i32_174
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v908 : Index := Scalar.indexCast v818
  ![23, v908.toNat]
def k0_off92 (k0_t2 : Fin k0_t2_loop.trips) : Fin 2 → Nat :=
  let c24_i32_175 : BitVec 32 := 24#32
  let v911 : Index := Scalar.indexCast c24_i32_175
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v912 : Index := Scalar.indexCast v818
  ![24, v912.toNat]
def k0_off93 (k0_t2 : Fin k0_t2_loop.trips) : Fin 2 → Nat :=
  let c25_i32_176 : BitVec 32 := 25#32
  let v915 : Index := Scalar.indexCast c25_i32_176
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v916 : Index := Scalar.indexCast v818
  ![25, v916.toNat]
def k0_off94 (k0_t2 : Fin k0_t2_loop.trips) : Fin 2 → Nat :=
  let c26_i32_177 : BitVec 32 := 26#32
  let v919 : Index := Scalar.indexCast c26_i32_177
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v920 : Index := Scalar.indexCast v818
  ![26, v920.toNat]
def k0_off95 (k0_t2 : Fin k0_t2_loop.trips) : Fin 2 → Nat :=
  let c27_i32_178 : BitVec 32 := 27#32
  let v923 : Index := Scalar.indexCast c27_i32_178
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v924 : Index := Scalar.indexCast v818
  ![27, v924.toNat]
def k0_off96 (k0_t2 : Fin k0_t2_loop.trips) : Fin 2 → Nat :=
  let c28_i32_179 : BitVec 32 := 28#32
  let v927 : Index := Scalar.indexCast c28_i32_179
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v928 : Index := Scalar.indexCast v818
  ![28, v928.toNat]
def k0_off97 (k0_t2 : Fin k0_t2_loop.trips) : Fin 2 → Nat :=
  let c29_i32_180 : BitVec 32 := 29#32
  let v931 : Index := Scalar.indexCast c29_i32_180
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v932 : Index := Scalar.indexCast v818
  ![29, v932.toNat]
def k0_off98 (k0_t2 : Fin k0_t2_loop.trips) : Fin 2 → Nat :=
  let c30_i32_181 : BitVec 32 := 30#32
  let v935 : Index := Scalar.indexCast c30_i32_181
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v936 : Index := Scalar.indexCast v818
  ![30, v936.toNat]
def k0_off99 (k0_t2 : Fin k0_t2_loop.trips) : Fin 2 → Nat :=
  let c31_i32_182 : BitVec 32 := 31#32
  let v939 : Index := Scalar.indexCast c31_i32_182
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v940 : Index := Scalar.indexCast v818
  ![31, v940.toNat]
def k0_off100 (k0_t2 : Fin k0_t2_loop.trips) : Fin 2 → Nat :=
  let c32_i32_183 : BitVec 32 := 32#32
  let v943 : Index := Scalar.indexCast c32_i32_183
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v944 : Index := Scalar.indexCast v818
  ![32, v944.toNat]
def k0_off101 (k0_t2 : Fin k0_t2_loop.trips) : Fin 2 → Nat :=
  let c33_i32_184 : BitVec 32 := 33#32
  let v947 : Index := Scalar.indexCast c33_i32_184
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v948 : Index := Scalar.indexCast v818
  ![33, v948.toNat]
def k0_off102 (k0_t2 : Fin k0_t2_loop.trips) : Fin 2 → Nat :=
  let c34_i32_185 : BitVec 32 := 34#32
  let v951 : Index := Scalar.indexCast c34_i32_185
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v952 : Index := Scalar.indexCast v818
  ![34, v952.toNat]
def k0_off103 (k0_t2 : Fin k0_t2_loop.trips) : Fin 2 → Nat :=
  let c35_i32_186 : BitVec 32 := 35#32
  let v955 : Index := Scalar.indexCast c35_i32_186
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v956 : Index := Scalar.indexCast v818
  ![35, v956.toNat]
def k0_off104 (k0_t2 : Fin k0_t2_loop.trips) : Fin 2 → Nat :=
  let c36_i32_187 : BitVec 32 := 36#32
  let v959 : Index := Scalar.indexCast c36_i32_187
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v960 : Index := Scalar.indexCast v818
  ![36, v960.toNat]
def k0_off105 (k0_t2 : Fin k0_t2_loop.trips) : Fin 2 → Nat :=
  let c37_i32_188 : BitVec 32 := 37#32
  let v963 : Index := Scalar.indexCast c37_i32_188
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v964 : Index := Scalar.indexCast v818
  ![37, v964.toNat]
def k0_off106 (k0_t2 : Fin k0_t2_loop.trips) : Fin 2 → Nat :=
  let c38_i32_189 : BitVec 32 := 38#32
  let v967 : Index := Scalar.indexCast c38_i32_189
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v968 : Index := Scalar.indexCast v818
  ![38, v968.toNat]
def k0_off107 (k0_t2 : Fin k0_t2_loop.trips) : Fin 2 → Nat :=
  let c39_i32_190 : BitVec 32 := 39#32
  let v971 : Index := Scalar.indexCast c39_i32_190
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v972 : Index := Scalar.indexCast v818
  ![39, v972.toNat]
def k0_off108 (k0_t2 : Fin k0_t2_loop.trips) : Fin 2 → Nat :=
  let c40_i32_191 : BitVec 32 := 40#32
  let v975 : Index := Scalar.indexCast c40_i32_191
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v976 : Index := Scalar.indexCast v818
  ![40, v976.toNat]
def k0_off109 (k0_t2 : Fin k0_t2_loop.trips) : Fin 2 → Nat :=
  let c41_i32_192 : BitVec 32 := 41#32
  let v979 : Index := Scalar.indexCast c41_i32_192
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v980 : Index := Scalar.indexCast v818
  ![41, v980.toNat]
def k0_off110 (k0_t2 : Fin k0_t2_loop.trips) : Fin 2 → Nat :=
  let c42_i32_193 : BitVec 32 := 42#32
  let v983 : Index := Scalar.indexCast c42_i32_193
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v984 : Index := Scalar.indexCast v818
  ![42, v984.toNat]
def k0_off111 (k0_t2 : Fin k0_t2_loop.trips) : Fin 2 → Nat :=
  let c43_i32_194 : BitVec 32 := 43#32
  let v987 : Index := Scalar.indexCast c43_i32_194
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v988 : Index := Scalar.indexCast v818
  ![43, v988.toNat]
def k0_off112 (k0_t2 : Fin k0_t2_loop.trips) : Fin 2 → Nat :=
  let c44_i32_195 : BitVec 32 := 44#32
  let v991 : Index := Scalar.indexCast c44_i32_195
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v992 : Index := Scalar.indexCast v818
  ![44, v992.toNat]
def k0_off113 (k0_t2 : Fin k0_t2_loop.trips) : Fin 2 → Nat :=
  let c45_i32_196 : BitVec 32 := 45#32
  let v995 : Index := Scalar.indexCast c45_i32_196
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v996 : Index := Scalar.indexCast v818
  ![45, v996.toNat]
def k0_off114 (k0_t2 : Fin k0_t2_loop.trips) : Fin 2 → Nat :=
  let c46_i32_197 : BitVec 32 := 46#32
  let v999 : Index := Scalar.indexCast c46_i32_197
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1000 : Index := Scalar.indexCast v818
  ![46, v1000.toNat]
def k0_off115 (k0_t2 : Fin k0_t2_loop.trips) : Fin 2 → Nat :=
  let c47_i32_198 : BitVec 32 := 47#32
  let v1003 : Index := Scalar.indexCast c47_i32_198
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1004 : Index := Scalar.indexCast v818
  ![47, v1004.toNat]
def k0_off116 (k0_t2 : Fin k0_t2_loop.trips) : Fin 2 → Nat :=
  let c48_i32_199 : BitVec 32 := 48#32
  let v1007 : Index := Scalar.indexCast c48_i32_199
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1008 : Index := Scalar.indexCast v818
  ![48, v1008.toNat]
def k0_off117 (k0_t2 : Fin k0_t2_loop.trips) : Fin 2 → Nat :=
  let c49_i32_200 : BitVec 32 := 49#32
  let v1011 : Index := Scalar.indexCast c49_i32_200
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1012 : Index := Scalar.indexCast v818
  ![49, v1012.toNat]
def k0_off118 (k0_t2 : Fin k0_t2_loop.trips) : Fin 2 → Nat :=
  let c50_i32_201 : BitVec 32 := 50#32
  let v1015 : Index := Scalar.indexCast c50_i32_201
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1016 : Index := Scalar.indexCast v818
  ![50, v1016.toNat]
def k0_off119 (k0_t2 : Fin k0_t2_loop.trips) : Fin 2 → Nat :=
  let c51_i32_202 : BitVec 32 := 51#32
  let v1019 : Index := Scalar.indexCast c51_i32_202
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1020 : Index := Scalar.indexCast v818
  ![51, v1020.toNat]
def k0_off120 (k0_t2 : Fin k0_t2_loop.trips) : Fin 2 → Nat :=
  let c52_i32_203 : BitVec 32 := 52#32
  let v1023 : Index := Scalar.indexCast c52_i32_203
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1024 : Index := Scalar.indexCast v818
  ![52, v1024.toNat]
def k0_off121 (k0_t2 : Fin k0_t2_loop.trips) : Fin 2 → Nat :=
  let c53_i32_204 : BitVec 32 := 53#32
  let v1027 : Index := Scalar.indexCast c53_i32_204
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1028 : Index := Scalar.indexCast v818
  ![53, v1028.toNat]
def k0_off122 (k0_t2 : Fin k0_t2_loop.trips) : Fin 2 → Nat :=
  let c54_i32_205 : BitVec 32 := 54#32
  let v1031 : Index := Scalar.indexCast c54_i32_205
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1032 : Index := Scalar.indexCast v818
  ![54, v1032.toNat]
def k0_off123 (k0_t2 : Fin k0_t2_loop.trips) : Fin 2 → Nat :=
  let c55_i32_206 : BitVec 32 := 55#32
  let v1035 : Index := Scalar.indexCast c55_i32_206
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1036 : Index := Scalar.indexCast v818
  ![55, v1036.toNat]
def k0_off124 (k0_t2 : Fin k0_t2_loop.trips) : Fin 2 → Nat :=
  let c56_i32_207 : BitVec 32 := 56#32
  let v1039 : Index := Scalar.indexCast c56_i32_207
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1040 : Index := Scalar.indexCast v818
  ![56, v1040.toNat]
def k0_off125 (k0_t2 : Fin k0_t2_loop.trips) : Fin 2 → Nat :=
  let c57_i32_208 : BitVec 32 := 57#32
  let v1043 : Index := Scalar.indexCast c57_i32_208
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1044 : Index := Scalar.indexCast v818
  ![57, v1044.toNat]
def k0_off126 (k0_t2 : Fin k0_t2_loop.trips) : Fin 2 → Nat :=
  let c58_i32_209 : BitVec 32 := 58#32
  let v1047 : Index := Scalar.indexCast c58_i32_209
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1048 : Index := Scalar.indexCast v818
  ![58, v1048.toNat]
def k0_off127 (k0_t2 : Fin k0_t2_loop.trips) : Fin 2 → Nat :=
  let c59_i32_210 : BitVec 32 := 59#32
  let v1051 : Index := Scalar.indexCast c59_i32_210
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1052 : Index := Scalar.indexCast v818
  ![59, v1052.toNat]
def k0_off128 (k0_t2 : Fin k0_t2_loop.trips) : Fin 2 → Nat :=
  let c60_i32_211 : BitVec 32 := 60#32
  let v1055 : Index := Scalar.indexCast c60_i32_211
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1056 : Index := Scalar.indexCast v818
  ![60, v1056.toNat]
def k0_off129 (k0_t2 : Fin k0_t2_loop.trips) : Fin 2 → Nat :=
  let c61_i32_212 : BitVec 32 := 61#32
  let v1059 : Index := Scalar.indexCast c61_i32_212
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1060 : Index := Scalar.indexCast v818
  ![61, v1060.toNat]
def k0_off130 (k0_t2 : Fin k0_t2_loop.trips) : Fin 2 → Nat :=
  let c62_i32_213 : BitVec 32 := 62#32
  let v1063 : Index := Scalar.indexCast c62_i32_213
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1064 : Index := Scalar.indexCast v818
  ![62, v1064.toNat]
def k0_off131 (k0_t2 : Fin k0_t2_loop.trips) : Fin 2 → Nat :=
  let c63_i32_214 : BitVec 32 := 63#32
  let v1067 : Index := Scalar.indexCast c63_i32_214
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1068 : Index := Scalar.indexCast v818
  ![63, v1068.toNat]
def k0_off132 (k0_t2 : Fin k0_t2_loop.trips) : Fin 1 → Nat :=
  let c0_i32_8 : BitVec 32 := 0#32
  let c1_i32_9 : BitVec 32 := 1#32
  let arg12 : BitVec 32 := Scf.iv c0_i32_8 c1_i32_9 k0_t2
  let c32_i32_149 : BitVec 32 := 32#32
  let v817 : BitVec 32 := Scalar.muli arg12 c32_i32_149
  let c16_i32_150 : BitVec 32 := 16#32
  let v818 : BitVec 32 := Scalar.addi v817 c16_i32_150
  let v1074 : Index := Scalar.indexCast v818
  ![v1074.toNat]
def k0_off133 (i : grid0.Coords) (k0_t1 : Fin k0_t1_loop.trips) : Fin 2 → Nat :=
  let c0_i32_11_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v12 : BitVec 32 := Scalar.muli v1 c1024_i32
  let c0_i32_4 : BitVec 32 := 0#32
  let c1_i32 : BitVec 32 := 1#32
  let arg11 : BitVec 32 := Scf.iv c0_i32_4 c1_i32 k0_t1
  let c512_i32 : BitVec 32 := 512#32
  let v13 : BitVec 32 := Scalar.muli arg11 c512_i32
  let v14 : BitVec 32 := Scalar.addi v12 v13
  ![0, v14.toNat]
abbrev grid1 : Pipeline.Grid := ⟨1, ![24], ![false]⟩

def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x64 : Shape := ⟨2, ![131072, 64]⟩
abbrev S131072 : Shape := ⟨1, ![131072]⟩
abbrev S64 : Shape := ⟨1, ![64]⟩
abbrev S1x64 : Shape := ⟨2, ![1, 64]⟩
abbrev S_ : Shape := ⟨0, ![]⟩
abbrev S131072x1 : Shape := ⟨2, ![131072, 1]⟩

abbrev nBuf : Space → Nat
  | .hbm => 94
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S131072, .f32⟩
  | .hbm, ⟨2, _⟩ => ⟨S64, .f32⟩
  | .hbm, ⟨3, _⟩ => ⟨S64, .f32⟩
  | .hbm, ⟨4, _⟩ => ⟨S64, .i1⟩
  | .hbm, ⟨5, _⟩ => ⟨S1x64, .i1⟩
  | .hbm, ⟨6, _⟩ => ⟨S_, .f32⟩
  | .hbm, ⟨7, _⟩ => ⟨S_, .f32⟩
  | .hbm, ⟨8, _⟩ => ⟨S131072x64, .i1⟩
  | .hbm, ⟨9, _⟩ => ⟨S131072x64, .f32⟩
  | .hbm, ⟨10, _⟩ => ⟨S131072x64, .f32⟩
  | .hbm, ⟨11, _⟩ => ⟨S_, .f32⟩
  | .hbm, ⟨12, _⟩ => ⟨S131072, .f32⟩
  | .hbm, ⟨13, _⟩ => ⟨S131072, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .i1⟩
  | .hbm, ⟨23, _⟩ => ⟨S_, .f32⟩
  | .hbm, ⟨24, _⟩ => ⟨S_, .f32⟩
  | .hbm, ⟨25, _⟩ => ⟨S131072x64, .i1⟩
  | .hbm, ⟨26, _⟩ => ⟨S131072x64, .f32⟩
  | .hbm, ⟨27, _⟩ => ⟨S131072x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S131072, .f32⟩
  | .hbm, ⟨33, _⟩ => ⟨S131072, .i1⟩
  | .hbm, ⟨34, _⟩ => ⟨S131072x1, .i1⟩
  | .hbm, ⟨35, _⟩ => ⟨S1x64, .f32⟩
  | .hbm, ⟨36, _⟩ => ⟨S131072x64, .i1⟩
  | .hbm, ⟨37, _⟩ => ⟨S131072x64, .f32⟩
  | .hbm, ⟨38, _⟩ => ⟨S131072x64, .f32⟩
  | .hbm, ⟨39, _⟩ => ⟨S131072, .f32⟩
  | .hbm, ⟨40, _⟩ => ⟨S131072, .i1⟩
  | .hbm, ⟨41, _⟩ => ⟨S131072x1, .i1⟩
  | .hbm, ⟨42, _⟩ => ⟨S1x64, .f32⟩
  | .hbm, ⟨43, _⟩ => ⟨S131072x64, .i1⟩
  | .hbm, ⟨44, _⟩ => ⟨S131072x64, .f32⟩
  | .hbm, ⟨45, _⟩ => ⟨S131072x64, .f32⟩
  | .hbm, ⟨46, _⟩ => ⟨S131072, .i1⟩
  | .hbm, ⟨47, _⟩ => ⟨S131072, .i1⟩
  | .hbm, ⟨48, _⟩ => ⟨S131072, .i1⟩
  | .hbm, ⟨49, _⟩ => ⟨S_, .f32⟩
  | .hbm, ⟨50, _⟩ => ⟨S131072, .f32⟩
  | .hbm, ⟨51, _⟩ => ⟨S131072, .i1⟩
  | .hbm, ⟨52, _⟩ => ⟨S131072, .i1⟩
  | .hbm, ⟨53, _⟩ => ⟨S131072, .f32⟩
  | .hbm, ⟨54, _⟩ => ⟨S131072, .f32⟩
  | .hbm, ⟨55, _⟩ => ⟨S131072, .f32⟩
  | .hbm, ⟨56, _⟩ => ⟨S131072, .f32⟩
  | .hbm, ⟨57, _⟩ => ⟨S131072x1, .f32⟩
  | .hbm, ⟨58, _⟩ => ⟨S131072x1, .i1⟩
  | .hbm, ⟨59, _⟩ => ⟨S1x64, .f32⟩
  | .hbm, ⟨60, _⟩ => ⟨S131072x64, .f32⟩
  | .hbm, ⟨61, _⟩ => ⟨S131072x64, .f32⟩
  | .hbm, ⟨62, _⟩ => ⟨S131072x64, .f32⟩
  | .hbm, ⟨63, _⟩ => ⟨S_, .f32⟩
  | .hbm, ⟨64, _⟩ => ⟨S131072x1, .f32⟩
  | .hbm, ⟨65, _⟩ => ⟨S131072x1, .f32⟩
  | .hbm, ⟨66, _⟩ => ⟨S131072x64, .f32⟩
  | .hbm, ⟨67, _⟩ => ⟨S131072x64, .f32⟩
  | .hbm, ⟨68, _⟩ => ⟨S131072x64, .f32⟩
  | .hbm, ⟨69, _⟩ => ⟨S131072x64, .i1⟩
  | .hbm, ⟨70, _⟩ => ⟨S131072x64, .f32⟩
  | .hbm, ⟨71, _⟩ => ⟨S131072, .i1⟩
  | .hbm, ⟨72, _⟩ => ⟨S131072, .i1⟩
  | .hbm, ⟨73, _⟩ => ⟨S131072, .f32⟩
  | .hbm, ⟨74, _⟩ => ⟨S131072, .f32⟩
  | .hbm, ⟨75, _⟩ => ⟨S131072, .f32⟩
  | .hbm, ⟨76, _⟩ => ⟨S131072, .f32⟩
  | .hbm, ⟨77, _⟩ => ⟨S131072x1, .f32⟩
  | .hbm, ⟨78, _⟩ => ⟨S131072x1, .i1⟩
  | .hbm, ⟨79, _⟩ => ⟨S1x64, .f32⟩
  | .hbm, ⟨80, _⟩ => ⟨S131072x64, .f32⟩
  | .hbm, ⟨81, _⟩ => ⟨S131072x64, .f32⟩
  | .hbm, ⟨82, _⟩ => ⟨S131072x64, .f32⟩
  | .hbm, ⟨83, _⟩ => ⟨S_, .f32⟩
  | .hbm, ⟨84, _⟩ => ⟨S131072x1, .f32⟩
  | .hbm, ⟨85, _⟩ => ⟨S131072x1, .f32⟩
  | .hbm, ⟨86, _⟩ => ⟨S131072x64, .f32⟩
  | .hbm, ⟨87, _⟩ => ⟨S131072x64, .f32⟩
  | .hbm, ⟨88, _⟩ => ⟨S131072x64, .f32⟩
  | .hbm, ⟨89, _⟩ => ⟨S131072x64, .i1⟩
  | .hbm, ⟨90, _⟩ => ⟨S131072x64, .f32⟩
  | .hbm, ⟨91, _⟩ => ⟨S1x64, .i1⟩
  | .hbm, ⟨92, _⟩ => ⟨S131072x64, .i1⟩
  | .hbm, ⟨93, _⟩ => ⟨S131072x64, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v5 : Ref sig .tc := ⟨.hbm, 17, rfl⟩
abbrev main_cst_2 : Ref sig .tc := ⟨.hbm, 18, rfl⟩
abbrev main_call2_v0 : Ref sig .tc := ⟨.hbm, 19, rfl⟩
abbrev main_call2_v1 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_cst_5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call4_v0 : Ref sig .tc := ⟨.hbm, 36, rfl⟩
abbrev main_call4_v1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call5_v0 : Ref sig .tc := ⟨.hbm, 43, rfl⟩
abbrev main_call5_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call6_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call7_v0 : Ref sig .tc := ⟨.hbm, 89, rfl⟩
abbrev main_v60 : Ref sig .tc := ⟨.hbm, 90, rfl⟩
abbrev main_v61 : Ref sig .tc := ⟨.hbm, 91, rfl⟩
abbrev main_call8_v0 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proof.Bounds.lean ====
/- What the precondition says: each bound is one number, in every column. -/
module

public import proofs.«01_k».proof.Defs
public import Idealize.ShloMosaic.Lib.Pointwise
public import Idealize.ShloMosaic.Lib.ReduceAll

@[expose] public section

set_option maxRecDepth 16384

noncomputable section

namespace Cert.Proof

open Cert.Pre_uniform_bounds Idealize.ShloMosaic

/-- The shape facts the precondition's function states. -/
theorem bounds_facts : Cert.Pre_uniform_bounds.Facts where
  slices_S64_S1_0 := by decide
  shapeCasts_S1_S_ := by decide
  bcast_S_S64 := by decide
  reducesTo_S64_S_d0 := by decide
  h_S_ := by decide

instance : Cert.Pre_uniform_bounds.Facts := bounds_facts

/-- Every entry of a bound equals its first. -/
theorem entry_first (l : FVec Ideal S64 .f32) (h : Cert.Pre_uniform_bounds.Facts) (k : Fin 64)
    (e : (cmpf .oeq l (broadcastInDim S64 ![] h.bcast_S_S64 (shapeCast S_ (extractStridedSlice S1 ![0] l h.slices_S64_S1_0) h.shapeCasts_S1_S_)) : IVec S64 1) (ix1 k) = 1#1) :
    l (ix1 k) = l (ix1 0) := by
  revert e
  pointwise
  intro e
  by_contra hn
  simp [hn] at e

/-- The precondition, read at a column. -/
theorem bounds_same [h : Cert.Pre_uniform_bounds.Facts] (x : FVec Ideal S131072x64 .f32) (b : FVec Ideal S131072 .f32) (l u : FVec Ideal S64 .f32)
    (e : Cert.Pre_uniform_bounds.fn (F := Ideal) x b l u = fun _ => 1#1) (k : Fin 64) : l (ix1 k) = l (ix1 0) ∧ u (ix1 k) = u (ix1 0) := by
  have e0 := congrFun e ix0
  unfold Cert.Pre_uniform_bounds.fn at e0
  have e1 := IntOp.andi_eq_one.1 e0
  haveI : Subsingleton S_.Idx := ⟨fun a b => funext fun i => i.elim0⟩
  exact ⟨entry_first l h k (Host.reduce_andi_all _ _ _ _ ix0 e1.1 _), entry_first u h k (Host.reduce_andi_all _ _ _ _ ix0 e1.2 _)⟩

end Cert.Proof

end
end
-- ==== Proof.ScSetup.lean ====
/- The SparseCore launch's set-up: the program as the launch theorem sees it, the resource algebra, the buffers of a
   vector subcore. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Frame
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UQ : Type := URounds (GSem nD τ sig) Unit × Counters
abbrev UU : Type := UH × UQ

abbrev EH : Emb UH (MT nD τ sig (HIx 1) (Elt F) ℕ UU ℕ) := embL
abbrev EP : Emb (URounds (GSem nD τ sig) Unit) (MT nD τ sig (HIx 1) (Elt F) ℕ UU ℕ) :=
  (Emb.inl : Emb (URounds (GSem nD τ sig) Unit) UQ).trans embR

/-! ## A vector subcore of the call's grid -/

abbrev cV (L : grid0.Coords) : Fin τ.nSC := (L 0).castLE hcore0
abbrev jV (L : grid0.Coords) : Fin τ.nSub := (L 1).castLE hsub0
/-- The thread of the tile at grid coordinates `L` on device `d`. -/
abbrev VT (d : Dev nD) (L : grid0.Coords) : Thread nD τ := V d (cV L) (jV L)

end Cert.Proof.Sc

end
end
-- ==== Proof.ScRow.lean ====
/- Rows of a tile's `64 × 512` staging buffer, sixteen lanes at a time: what a load of sixteen lanes of one row reads,
   what the store of one repaired row leaves, and the two as steps of a program. -/
module

public import proofs.«01_k».proof.Proof.ScSetup

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "xB" => (Memref.whole Cert.KernelIdeal.cc0_scratch0 : Memref Cert.KernelIdeal.sig Kind.scVector Space.vmem Cert.KernelIdeal.S64x512 EltTy.f32)
local notation "bB" => (Memref.whole Cert.KernelIdeal.cc0_scratch1 : Memref Cert.KernelIdeal.sig Kind.scVector Space.vmem Cert.KernelIdeal.S512 EltTy.f32)

/-- The contents of the staging buffer, as an array. -/
abbrev XBuf (F : FTy → Type) : Type := S64x512.Idx → Elt F .f32

/-- The element at row `a`, column `b + l`. -/
def ix (a b l : ℕ) : S64x512.Idx
  | 0 => (⟨a % 64, Nat.mod_lt _ (by decide)⟩ : Fin 64)
  | 1 => (⟨(b + l) % 512, Nat.mod_lt _ (by decide)⟩ : Fin 512)

/-- Sixteen lanes of row `a` from column `b` on, as the load of them reads. -/
def rowv (f : XBuf F) (a b : ℕ) : Vec F S1x16 .f32 := fun k => f (ix a b (k 1).val)

/-- Sixteen lanes of a 512-lane buffer from lane `b` on. -/
def lanes (g : S512.Idx → Elt F .f32) (b : ℕ) : Vec F S16 .f32 := fun k => g (fun | 0 => (⟨(b + (k 0).val) % 512, Nat.mod_lt _ (by decide)⟩ : Fin 512))

/-- Lane `l` of a one-row array. -/
def laneIdx (l : ℕ) : S1x16.Idx
  | 0 => (0 : Fin 1)
  | 1 => (⟨l % 16, Nat.mod_lt _ (by decide)⟩ : Fin 16)

variable [FloatOps F]

/-- Sixteen lanes of row `a` after the repair with factor `al` and summand `ad`. -/
def newRow (al ad : FVec F S16 .f32) (f : XBuf F) (a b : ℕ) : Vec F S1x16 .f32 :=
  shapeCast S1x16 (addf (mulf al (shapeCast S16 (rowv f a b) shapeCasts_S1x16_S16)) ad) shapeCasts_S16_S1x16

/-- The buffer once the lanes from column `b` on of its first `n` rows are repaired. -/
def mix (al ad : FVec F S16 .f32) (f : XBuf F) (b n : ℕ) : XBuf F := fun i =>
  if (i 0).val < n ∧ b ≤ (i 1).val ∧ (i 1).val < b + 16 then newRow al ad f (i 0).val b (laneIdx ((i 1).val - b)) else f i

/-- The buffer once those lanes of all 64 rows are repaired. -/
def allRows (al ad : FVec F S16 .f32) (f : XBuf F) (b : ℕ) : XBuf F := mix al ad f b 64

theorem mix_zero (al ad : FVec F S16 .f32) (f : XBuf F) (b : ℕ) : mix al ad f b 0 = f := by
  funext i; simp [mix]

omit [FloatOps F] in
theorem read_row (off : Fin 2 → ℕ) (inb : ∀ a, off a + S1x16.size a ≤ S64x512.size a) (f : XBuf F) :
    ((xB).access (Rect.unit (s := S64x512) off S1x16.size inb)).read (Elt F) f = rowv f (off 0) (off 1) := by
  funext k
  show f _ = f _
  have h0 : off 0 + 1 ≤ 64 := inb 0
  have h1 : off 1 + 16 ≤ 512 := inb 1
  have hk0 : (k 0).val < 1 := (k 0).isLt
  have hk1 : (k 1).val < 16 := (k 1).isLt
  congr 1
  funext a
  fin_cases a
  · apply Fin.ext
    show off 0 + 1 * (k 0).val = off 0 % 64
    omega
  · apply Fin.ext
    show off 1 + 1 * (k 1).val = (off 1 + (k 1).val) % 512
    omega

omit [FloatOps F] in
theorem read_lanes (off : Fin 1 → ℕ) (inb : ∀ a, off a + S16.size a ≤ S512.size a) (g : S512.Idx → Elt F .f32) :
    ((bB).access (Rect.unit (s := S512) off S16.size inb)).read (Elt F) g = lanes g (off 0) := by
  funext k
  show g _ = g _
  have h0 : off 0 + 16 ≤ 512 := inb 0
  have hk0 : (k 0).val < 16 := (k 0).isLt
  congr 1
  funext a
  fin_cases a
  apply Fin.ext
  show off 0 + 1 * (k 0).val = (off 0 + (k 0).val) % 512
  omega

theorem rowv_mix (al ad : FVec F S16 .f32) (f : XBuf F) (b n a : ℕ) (ha : a < 64) (hn : n ≤ a) :
    rowv (mix al ad f b n) a b = rowv f a b := by
  funext k
  simp only [rowv, mix]
  rw [if_neg]
  rintro ⟨h, -⟩
  have h' : a % 64 < n := h
  omega

theorem write_row (off : Fin 2 → ℕ) (inb : ∀ a, off a + S1x16.size a ≤ S64x512.size a)
    (al ad : FVec F S16 .f32) (f : XBuf F) :
    ((xB).access (Rect.unit (s := S64x512) off S1x16.size inb)).write (Elt F) (mix al ad f (off 1) (off 0))
      (newRow al ad f (off 0) (off 1)) Finset.univ = mix al ad f (off 1) (off 0 + 1) := by
  funext i
  have h0 : off 0 + 1 ≤ 64 := inb 0
  have h1 : off 1 + 16 ≤ 512 := inb 1
  by_cases hi : (i 0).val = off 0 ∧ off 1 ≤ (i 1).val ∧ (i 1).val < off 1 + 16
  · obtain ⟨hi0, hi1, hi2⟩ := hi
    have he : i = ((xB).access (Rect.unit (s := S64x512) off S1x16.size inb)).emb (laneIdx ((i 1).val - off 1)) := by
      funext a
      fin_cases a
      · apply Fin.ext
        show (i 0).val = off 0 + 1 * 0
        omega
      · apply Fin.ext
        show (i 1).val = off 1 + 1 * (((i 1).val - off 1) % 16)
        omega
    have h := View.write_emb_of_mem (v := (xB).access (Rect.unit (s := S64x512) off S1x16.size inb)) (Val := Elt F) (mix al ad f (off 1) (off 0))
      (newRow al ad f (off 0) (off 1)) (Finset.mem_univ (laneIdx ((i 1).val - off 1)))
    rw [← he] at h
    rw [h]
    unfold mix
    rw [if_pos ⟨by omega, hi1, hi2⟩, hi0]
    rfl
  · rw [View.write_of_not_mem]
    · unfold mix
      by_cases h : (i 0).val < off 0 ∧ off 1 ≤ (i 1).val ∧ (i 1).val < off 1 + 16
      · rw [if_pos h, if_pos ⟨by omega, h.2⟩]
      · rw [if_neg h, if_neg (by omega)]
    · intro hm
      obtain ⟨k, -, hk⟩ := Finset.mem_map.1 hm
      apply hi
      subst hk
      have hk0 : (k 0).val < 1 := (k 0).isLt
      have hk1 : (k 1).val < 16 := (k 1).isLt
      refine ⟨?_, ?_, ?_⟩
      · show off 0 + 1 * (k 0).val = off 0
        omega
      · show off 1 ≤ off 1 + 1 * (k 1).val
        omega
      · show off 1 + 1 * (k 1).val < off 1 + 16
        omega

section Steps

variable {d : Dev nD} {L : grid0.Coords} {R : sProp (MT nD τ sig (HIx 1) (Elt F) ℕ UU ℕ)}

/-- The staging buffer of tile `L` at contents `f`; its buffer of `b` at contents `g`. -/
abbrev xAt (d : Dev nD) (L : grid0.Coords) (f : XBuf F) : sProp 𝕄 := (xB).view.loc (VT d L) ↦{fullShare} f
abbrev bAt (d : Dev nD) (L : grid0.Coords) (g : S512.Idx → Elt F .f32) : sProp 𝕄 := (bB).view.loc (VT d L) ↦{fullShare} g

/-- A load of sixteen lanes of one row. -/
theorem load_step {Q : Vec F S1x16 .f32 → sProp 𝕄} {off : Fin 2 → ℕ} {inb : ∀ a, off a + S1x16.size a ≤ S64x512.size a}
    {hl : (xB).view.LoadsAt (Rect.unit (s := S64x512) off S1x16.size inb).toLoadRect} {f : XBuf F}
    (h : iprop(xAt d L f ∗ R) ⊢ Q (rowv f (off 0) (off 1))) :
    iprop(xAt d L f ∗ R)
      ⊢ wp frame (wpE defs₀ 𝒱₀ (VT d L) none) Set.univ (Prog.lift (.load xB (Rect.unit (s := S64x512) off S1x16.size inb).toLoadRect hl)) Q := by
  iintro ⟨Hx, HR⟩
  iapply (wp_load_rect 𝒱₀ (VT d L) none Set.univ (m := xB) (r := Rect.unit (s := S64x512) off S1x16.size inb) (S := Finset.univ) (Finset.subset_univ _)) $$ Hx
  iintro Hx
  rw [read_row off inb, wp_ret]
  imodintro
  iapply h
  isplitl [Hx]; · iexact Hx
  iexact HR

/-- A load of sixteen lanes of `b`. -/
theorem loadb_step {Q : Vec F S16 .f32 → sProp 𝕄} {off : Fin 1 → ℕ} {inb : ∀ a, off a + S16.size a ≤ S512.size a}
    {hl : (bB).view.LoadsAt (Rect.unit (s := S512) off S16.size inb).toLoadRect} {f : XBuf F} {g : S512.Idx → Elt F .f32}
    (h : iprop(xAt d L f ∗ bAt d L g ∗ R) ⊢ Q (lanes g (off 0))) :
    iprop(xAt d L f ∗ bAt d L g ∗ R)
      ⊢ wp frame (wpE defs₀ 𝒱₀ (VT d L) none) Set.univ (Prog.lift (.load bB (Rect.unit (s := S512) off S16.size inb).toLoadRect hl)) Q := by
  iintro ⟨Hx, Hb, HR⟩
  iapply (wp_load_rect 𝒱₀ (VT d L) none Set.univ (m := bB) (r := Rect.unit (s := S512) off S16.size inb) (S := Finset.univ) (Finset.subset_univ _)) $$ Hb
  iintro Hb
  rw [read_lanes off inb, wp_ret]
  imodintro
  iapply h
  isplitl [Hx]; · iexact Hx
  isplitl [Hb]; · iexact Hb
  iexact HR

/-- A load of the next row to repair, the rows before it repaired. -/
theorem loadn_step {Q : Vec F S1x16 .f32 → sProp 𝕄} {off : Fin 2 → ℕ} {inb : ∀ a, off a + S1x16.size a ≤ S64x512.size a}
    {hl : (xB).view.LoadsAt (Rect.unit (s := S64x512) off S1x16.size inb).toLoadRect}
    {al ad : FVec F S16 .f32} {f : XBuf F} {b n : ℕ} (h0 : off 0 = n) (h1 : off 1 = b)
    (h : iprop(xAt d L (mix al ad f b n) ∗ R) ⊢ Q (rowv f n b)) :
    iprop(xAt d L (mix al ad f b n) ∗ R)
      ⊢ wp frame (wpE defs₀ 𝒱₀ (VT d L) none) Set.univ (Prog.lift (.load xB (Rect.unit (s := S64x512) off S1x16.size inb).toLoadRect hl)) Q := by
  refine load_step ?_
  subst h0 h1
  rw [rowv_mix al ad f _ _ _ (inb 0) (le_refl _)]
  exact h

/-- The store of the next row, repaired. -/
theorem store_step {Q : PUnit → sProp 𝕄} {off : Fin 2 → ℕ} {inb : ∀ a, off a + S1x16.size a ≤ S64x512.size a}
    {hx : ((xB).access (Rect.unit (s := S64x512) off S1x16.size inb)).Stores Finset.univ} {hm}
    {w : FVec F S16 .f32} {al ad : FVec F S16 .f32} {f : XBuf F} {b n : ℕ} (h0 : off 0 = n) (h1 : off 1 = b)
    (hw : w = addf (mulf al (shapeCast S16 (rowv f n b) shapeCasts_S1x16_S16)) ad)
    (h : iprop(xAt d L (mix al ad f b (n + 1)) ∗ R) ⊢ Q ⟨⟩) :
    iprop(xAt d L (mix al ad f b n) ∗ R)
      ⊢ wp frame (wpE defs₀ 𝒱₀ (VT d L) none) Set.univ
          (Prog.lift (.store xB (Rect.unit (s := S64x512) off S1x16.size inb)
            (shapeCast S1x16 w shapeCasts_S16_S1x16) Finset.univ hx hm)) Q := by
  subst h0 h1 hw
  iintro ⟨Hx, HR⟩
  iapply (wp_store 𝒱₀ (VT d L) none Set.univ (m := xB) (r := Rect.unit (s := S64x512) off S1x16.size inb) (Mk := Finset.univ) (S := Finset.univ) (Finset.subset_univ _)) $$ Hx
  iintro Hx
  rw [wp_ret]
  imodintro
  iapply h
  isplitl [Hx]
  · rw [← write_row off inb al ad f]; iexact Hx
  iexact HR

/-- The store of the last row, repaired. -/
theorem store_last_step {Q : PUnit → sProp 𝕄} {off : Fin 2 → ℕ} {inb : ∀ a, off a + S1x16.size a ≤ S64x512.size a}
    {hx : ((xB).access (Rect.unit (s := S64x512) off S1x16.size inb)).Stores Finset.univ} {hm}
    {w : FVec F S16 .f32} {al ad : FVec F S16 .f32} {f : XBuf F} {b n : ℕ} (hn : n + 1 = 64) (h0 : off 0 = n) (h1 : off 1 = b)
    (hw : w = addf (mulf al (shapeCast S16 (rowv f n b) shapeCasts_S1x16_S16)) ad)
    (h : iprop(xAt d L (allRows al ad f b) ∗ R) ⊢ Q ⟨⟩) :
    iprop(xAt d L (mix al ad f b n) ∗ R)
      ⊢ wp frame (wpE defs₀ 𝒱₀ (VT d L) none) Set.univ
          (Prog.lift (.store xB (Rect.unit (s := S64x512) off S1x16.size inb)
            (shapeCast S1x16 w shapeCasts_S16_S1x16) Finset.univ hx hm)) Q :=
  store_step h0 h1 hw (by rw [hn]; exact h)

theorem bind_step {α β : Type} {thr : Thread nD τ} {P : sProp 𝕄} {p : Prog (TpuEff nD τ sig (Elt F) Λ₀ thr.2) α}
    {k : α → Prog (TpuEff nD τ sig (Elt F) Λ₀ thr.2) β} {Q : β → sProp 𝕄}
    (h : P ⊢ wp frame (wpE defs₀ 𝒱₀ thr none) Set.univ p fun a => wp frame (wpE defs₀ 𝒱₀ thr none) Set.univ (k a) Q) :
    P ⊢ wp frame (wpE defs₀ 𝒱₀ thr none) Set.univ (p >>= k) Q := by
  rw [wp_bind]; exact h

theorem pure_step {α : Type} {thr : Thread nD τ} {P : sProp 𝕄} {a : α} {Q : α → sProp 𝕄} (h : P ⊢ Q a) :
    P ⊢ wp frame (wpE defs₀ 𝒱₀ thr none) Set.univ (pure a : Prog (TpuEff nD τ sig (Elt F) Λ₀ thr.2) α) Q := by
  rw [wp_pure]
  iintro H
  imodintro
  iapply h
  iexact H

end Steps

end Cert.Proof.Sc

end
end
-- ==== Proof.ScTile.lean ====
/- One trip of a tile's inner loop: thirty-two columns of the staging buffer repaired, as two groups of sixteen lanes. -/
module

public import proofs.«01_k».proof.Proof.ScRow

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xB" => (Memref.whole Cert.KernelIdeal.cc0_scratch0 : Memref Cert.KernelIdeal.sig Kind.scVector Space.vmem Cert.KernelIdeal.S64x512 EltTy.f32)
local notation "bB" => (Memref.whole Cert.KernelIdeal.cc0_scratch1 : Memref Cert.KernelIdeal.sig Kind.scVector Space.vmem Cert.KernelIdeal.S512 EltTy.f32)

/-! ## The arithmetic of one column group -/

/-- Row `a`'s sixteen lanes as the arithmetic takes them. -/
def lrow (f : XBuf F) (a b : ℕ) : FVec F S16 .f32 := shapeCast S16 (rowv f a b) shapeCasts_S1x16_S16

/-- The sum of rows `k, k + 4, …, k + 4n`, in that order. -/
def accRows (f : XBuf F) (b k : ℕ) : ℕ → FVec F S16 .f32
  | 0 => lrow f k b
  | n + 1 => addf (accRows f b k n) (lrow f (k + 4 * (n + 1)) b)

/-- The lanes' sums over the 64 rows, by four accumulators. -/
def sumRows (f : XBuf F) (b : ℕ) : FVec F S16 .f32 :=
  addf (addf (accRows f b 0 15) (accRows f b 1 15)) (addf (accRows f b 2 15) (accRows f b 3 15))

section Scalars

variable (lv uv s bv : FVec F S16 .f32)

def loV : FVec F S16 .f32 := mulf lv (broadcast S16 (Scalar.ofBits .f32 0x42800000#32))
def oneV : FVec F S16 .f32 := broadcast S16 (Scalar.ofBits .f32 0x3F800000#32)
def zeroV : FVec F S16 .f32 := broadcast S16 (Scalar.ofBits .f32 0x00000000#32)
def posV : IVec S16 1 := cmpf .ogt (subf bv s) zeroV
def negV : IVec S16 1 := cmpf .olt (subf bv s) zeroV
def lessV : IVec S16 1 := cmpf .ole bv (loV lv)
def greaterV : IVec S16 1 := cmpf .oge bv (loV uv)
def ratioV : FVec F S16 .f32 := divf (subf bv s) (select (posV s bv) (subf (loV uv) s) (subf (loV lv) s))
def freeV : IVec S16 1 := andi (xori (lessV lv bv) (constantI S16 1 1#1)) (xori (greaterV uv bv) (constantI S16 1 1#1))
/-- The factor by which the lanes' entries are multiplied, -/
def alphaV : FVec F S16 .f32 :=
  select (cmpf .oeq lv uv) oneV (select (ori (lessV lv bv) (greaterV uv bv)) zeroV
    (select (ori (andi (freeV lv uv bv) (posV s bv)) (andi (freeV lv uv bv) (negV s bv))) (subf oneV (ratioV lv uv s bv)) oneV))
/-- and what is added to them. -/
def addV : FVec F S16 .f32 :=
  select (cmpf .oeq lv uv) zeroV (select (greaterV uv bv) uv (select (lessV lv bv) lv
    (select (andi (freeV lv uv bv) (posV s bv)) (mulf (ratioV lv uv s bv) uv)
      (select (andi (freeV lv uv bv) (negV s bv)) (mulf (ratioV lv uv s bv) lv) zeroV))))

end Scalars

/-- The buffer with the column group at `b` repaired. -/
def repairGroup (lv uv : FVec F S16 .f32) (g : S512.Idx → Elt F .f32) (f : XBuf F) (b : ℕ) : XBuf F :=
  allRows (alphaV lv uv (sumRows f b) (lanes g b)) (addV lv uv (sumRows f b) (lanes g b)) f b

section Body

variable {d : Dev nD} {i : grid0.Coords}
  (arg2 : Memref sig .scVector .hbm S64x131072 .f32) (harg2 : arg2.IsWhole) (arg3 : Memref sig .scVector .hbm S131072 .f32) (harg3 : arg3.IsWhole)
  (arg4 : Memref sig .scVector .hbm S64 .f32) (harg4 : arg4.IsWhole) (arg5 : Memref sig .scVector .hbm S64 .f32) (harg5 : arg5.IsWhole)
  (arg6 : Memref sig .scVector .hbm S64x32768 .f32) (harg6 : arg6.IsWhole)
  (harg7 : (xB).IsWhole) (harg8 : (bB).IsWhole)
  (arg9 : Memref sig .scVector .vmem S64 .f32) (harg9 : arg9.IsWhole) (arg10 : Memref sig .scVector .vmem S64 .f32) (harg10 : arg10.IsWhole)
  (r0 r1 r2 r3 r4 : DmaSems sig S_) (t : Fin k0_t2_loop.trips)

/-- The eighth part: the first group's factor and summand computed, its first four rows stored, the fifth loaded. -/
theorem part8_step {R : sProp 𝕄} {Q : (Σ' (_ : FVec F S16 .f32) (_ : FVec F S16 .f32), Vec F S1x16 .f32) → sProp 𝕄} {f : XBuf F}
    (v2 v3 : Vec F S16 .f32) (v8 : IVec S16 1) (v9 v10 : FVec F S16 .f32) (v16 : BitVec 32) (v275 v276 : IVec S16 1) (v296 v300 : FVec F S16 .f32)
    (h : ∀ al ad, al = k0_pay43 v8 v10 v296 → ad = k0_pay44 v2 v3 v8 v9 v275 v276 v300 →
      iprop(xAt d i (mix al ad f (k0_off3 t 1) 4) ∗ R) ⊢ Q ⟨al, ad, rowv f 4 (k0_off3 t 1)⟩) :
    iprop(xAt d i f ∗ R) ⊢ wp frame (wpE defs₀ 𝒱₀ (VT d i) none) Set.univ
      (k0_part8 i arg2 harg2 arg3 harg3 arg4 harg4 arg5 harg5 arg6 harg6 xB harg7 bB harg8 arg9 harg9 arg10 harg10 r0 r1 r2 r3 r4
        v2 v3 v8 v9 v10 t v16 v275 v276 v296 v300) Q := by
  rw [k0_part8_eq_skeleton]
  unfold k0_part8_skel
  replace h := h _ _ rfl rfl
  rw [← mix_zero (k0_pay43 v8 v10 v296) (k0_pay44 v2 v3 v8 v9 v275 v276 v300) f (k0_off3 t 1)]
  repeat first
    | with_reducible refine bind_step ?_
    | (with_reducible refine loadn_step ?_ ?_ ?_) <;> [rfl; rfl; skip]
    | (with_reducible refine store_step ?_ ?_ ?_ ?_) <;> [rfl; rfl; rfl; skip]
  refine pure_step ?_
  exact h

/-- The twenty-eighth part: the last loads of the second group, its factor and the summand up to the equal-bounds case. -/
theorem part28_step {R : sProp 𝕄} {Q : (Σ' (_ : Vec F S16 .f32), FVec F S16 .f32) → sProp 𝕄} {f : XBuf F} {g : S512.Idx → Elt F .f32}
    (v2 v3 : Vec F S16 .f32) (v5 v7 : FVec F S16 .f32) (v8 : IVec S16 1) (v9 v10 : FVec F S16 .f32) (v818 : BitVec 32)
    (v1042 v1046 v1050 v1054 : FVec F S16 .f32) (ld : Vec F S1x16 .f32)
    (h : ∀ p q,
      p = k0_pay143 v2 v3 v5 v7 v9 v1042 v1046 v1050 v1054 ld (rowv f 61 (k0_off68 t 1)) (rowv f 62 (k0_off68 t 1)) (rowv f 63 (k0_off68 t 1)) (lanes g (k0_off132 t 0)) →
      q = k0_pay144 v5 v7 v8 v9 v10 v1042 v1046 v1050 v1054 ld (rowv f 61 (k0_off68 t 1)) (rowv f 62 (k0_off68 t 1)) (rowv f 63 (k0_off68 t 1)) (lanes g (k0_off132 t 0)) →
      iprop(xAt d i f ∗ bAt d i g ∗ R) ⊢ Q ⟨p, q⟩) :
    iprop(xAt d i f ∗ bAt d i g ∗ R) ⊢ wp frame (wpE defs₀ 𝒱₀ (VT d i) none) Set.univ
      (k0_part28 i arg2 harg2 arg3 harg3 arg4 harg4 arg5 harg5 arg6 harg6 xB harg7 bB harg8 arg9 harg9 arg10 harg10 r0 r1 r2 r3 r4
        v2 v3 v5 v7 v8 v9 v10 t v818 v1042 v1046 v1050 v1054 ld) Q := by
  rw [k0_part28_eq_skeleton]
  unfold k0_part28_skel
  replace h := h _ _ rfl rfl
  repeat first
    | with_reducible refine bind_step ?_
    | with_reducible refine load_step ?_
    | with_reducible refine loadb_step ?_
  refine pure_step ?_
  exact h

/-- The twenty-ninth part: the second group's summand computed, its first four rows stored, the fifth loaded. -/
theorem part29_step {R : sProp 𝕄} {Q : (Σ' (_ : FVec F S16 .f32), FVec F S16 .f32) → sProp 𝕄} {f : XBuf F}
    (v8 : IVec S16 1) (v9 : FVec F S16 .f32) (v818 : BitVec 32) (v1104 : Vec F S16 .f32) (v1105 : FVec F S16 .f32)
    (h : ∀ ad, ad = k0_pay145 v8 v9 v1104 →
      iprop(xAt d i (mix v1105 ad f (k0_off68 t 1) 4) ∗ R)
        ⊢ Q ⟨ad, addf (mulf v1105 (shapeCast S16 (rowv f 4 (k0_off68 t 1)) shapeCasts_S1x16_S16)) ad⟩) :
    iprop(xAt d i f ∗ R) ⊢ wp frame (wpE defs₀ 𝒱₀ (VT d i) none) Set.univ
      (k0_part29 i arg2 harg2 arg3 harg3 arg4 harg4 arg5 harg5 arg6 harg6 xB harg7 bB harg8 arg9 harg9 arg10 harg10 r0 r1 r2 r3 r4
        v8 v9 t v818 v1104 v1105) Q := by
  rw [k0_part29_eq_skeleton]
  unfold k0_part29_skel
  replace h := h _ rfl
  rw [← mix_zero v1105 (k0_pay145 v8 v9 v1104) f (k0_off68 t 1)]
  repeat first
    | with_reducible refine bind_step ?_
    | (with_reducible refine loadn_step ?_ ?_ ?_) <;> [rfl; rfl; skip]
    | (with_reducible refine store_step ?_ ?_ ?_ ?_) <;> [rfl; rfl; rfl; skip]
  refine pure_step ?_
  exact h

set_option maxRecDepth 65536 in
set_option maxHeartbeats 4000000 in
/-- A trip repairs the sixteen columns at `32t`, then the sixteen at `32t + 16`. -/
theorem t2_body {R : sProp 𝕄} {Q : Unit → sProp 𝕄} (f : XBuf F) (g : S512.Idx → Elt F .f32) (v2 v3 : Vec F S16 .f32)
    (h : iprop(xAt d i (repairGroup v2 v3 g (repairGroup v2 v3 g f (k0_off3 t 1)) (k0_off68 t 1)) ∗ bAt d i g ∗ R) ⊢ Q ()) :
    iprop(xAt d i f ∗ bAt d i g ∗ R) ⊢ wp frame (wpE defs₀ 𝒱₀ (VT d i) none) Set.univ
      (k0_t2_body i arg2 harg2 arg3 harg3 arg4 harg4 arg5 harg5 arg6 harg6 xB harg7 bB harg8 arg9 harg9 arg10 harg10 r0 r1 r2 r3 r4
        v2 v3 t ()) Q := by
  unfold k0_t2_body
  repeat first
    | with_reducible refine bind_step ?_
    | with_reducible refine pure_step ?_
    | (with_reducible refine loadn_step ?_ ?_ ?_) <;> [rfl; rfl; skip]
    | with_reducible refine load_step ?_
    | with_reducible refine loadb_step ?_
    | (with_reducible refine part8_step (h := ?_) ..; intro al ad hal had)
    | (with_reducible refine part28_step (h := ?_) ..; intro ls al2 hls hal2)
    | (with_reducible refine part29_step (h := ?_) ..; intro ad2 had2)
    | (with_reducible refine store_last_step ?_ ?_ ?_ ?_ ?_) <;> [decide; rfl; rfl; rfl; skip]
    | (with_reducible refine store_step ?_ ?_ ?_ ?_) <;> [rfl; rfl; rfl; skip]
    | (rw [k0_part42_eq_skeleton]; unfold k0_part42_skel)
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
  subst hal had hls hal2 had2
  exact h

end Body

end Cert.Proof.Sc

end
end
-- ==== Proof.ScChunk.lean ====
/- A tile's inner loop: every column of the staging buffer repaired, thirty-two at a trip. -/
module

public import proofs.«01_k».proof.Proof.ScTile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xB" => (Memref.whole Cert.KernelIdeal.cc0_scratch0 : Memref Cert.KernelIdeal.sig Kind.scVector Space.vmem Cert.KernelIdeal.S64x512 EltTy.f32)
local notation "bB" => (Memref.whole Cert.KernelIdeal.cc0_scratch1 : Memref Cert.KernelIdeal.sig Kind.scVector Space.vmem Cert.KernelIdeal.S512 EltTy.f32)

/-! ## The whole buffer repaired -/

section Value

variable (lv uv : FVec F S16 .f32) (g : S512.Idx → Elt F .f32) (f : XBuf F)

/-- The buffer with every column repaired: each element by the column group it lies in. -/
def tileOut : XBuf F := fun i =>
  newRow (alphaV lv uv (sumRows f (16 * ((i 1).val / 16))) (lanes g (16 * ((i 1).val / 16))))
    (addV lv uv (sumRows f (16 * ((i 1).val / 16))) (lanes g (16 * ((i 1).val / 16)))) f (i 0).val (16 * ((i 1).val / 16))
    (laneIdx ((i 1).val - 16 * ((i 1).val / 16)))

/-- The buffer once its first `n` column groups are repaired. -/
def doneTo (n : ℕ) : XBuf F := fun i => if (i 1).val < 16 * n then tileOut lv uv g f i else f i

theorem doneTo_zero : doneTo lv uv g f 0 = f := by funext i; simp [doneTo]

theorem doneTo_all : doneTo lv uv g f 32 = tileOut lv uv g f := by
  funext i
  have h : (i 1).val < 512 := (i 1).isLt
  exact if_pos (by omega)

theorem rowv_doneTo (n a : ℕ) (hn : n < 32) : rowv (doneTo lv uv g f n) a (16 * n) = rowv f a (16 * n) := by
  funext k
  have hk : (k 1).val < 16 := (k 1).isLt
  exact if_neg (show ¬ (16 * n + (k 1).val) % 512 < 16 * n by omega)

theorem accRows_congr (f f' : XBuf F) (b : ℕ) (h : ∀ a, rowv f a b = rowv f' a b) (k n : ℕ) : accRows f b k n = accRows f' b k n := by
  induction n with
  | zero => simp only [accRows, lrow, h]
  | succ n ih => simp only [accRows, lrow, h, ih]

theorem sumRows_congr (f f' : XBuf F) (b : ℕ) (h : ∀ a, rowv f a b = rowv f' a b) : sumRows f b = sumRows f' b := by
  simp only [sumRows, accRows_congr f f' b h]

theorem newRow_congr (al ad : FVec F S16 .f32) (f f' : XBuf F) (a b : ℕ) (h : rowv f a b = rowv f' a b) : newRow al ad f a b = newRow al ad f' a b := by
  simp only [newRow, h]

/-- Repairing the next group. -/
theorem repairGroup_doneTo (n : ℕ) (hn : n < 32) : repairGroup lv uv g (doneTo lv uv g f n) (16 * n) = doneTo lv uv g f (n + 1) := by
  have hr := fun a => rowv_doneTo lv uv g f n a hn
  funext i
  have h0 : (i 0).val < 64 := (i 0).isLt
  unfold repairGroup
  rw [sumRows_congr _ _ _ hr]
  by_cases h : 16 * n ≤ (i 1).val ∧ (i 1).val < 16 * n + 16
  · have hq : 16 * ((i 1).val / 16) = 16 * n := by omega
    unfold allRows mix
    rw [if_pos ⟨h0, h.1, h.2⟩, newRow_congr _ _ _ _ _ _ (hr _)]
    unfold doneTo
    rw [if_pos (by omega)]
    unfold tileOut
    rw [hq]
  · unfold allRows mix
    rw [if_neg (fun hh => h hh.2)]
    unfold doneTo
    by_cases h' : (i 1).val < 16 * n
    · rw [if_pos h', if_pos (by omega)]
    · rw [if_neg h', if_neg (by omega)]

end Value

/-! ## The loop -/

section Loop

variable {d : Dev nD} {i : grid0.Coords}
  (arg2 : Memref sig .scVector .hbm S64x131072 .f32) (harg2 : arg2.IsWhole) (arg3 : Memref sig .scVector .hbm S131072 .f32) (harg3 : arg3.IsWhole)
  (arg4 : Memref sig .scVector .hbm S64 .f32) (harg4 : arg4.IsWhole) (arg5 : Memref sig .scVector .hbm S64 .f32) (harg5 : arg5.IsWhole)
  (arg6 : Memref sig .scVector .hbm S64x32768 .f32) (harg6 : arg6.IsWhole) (harg7 : (xB).IsWhole) (harg8 : (bB).IsWhole)
  (arg9 : Memref sig .scVector .vmem S64 .f32) (harg9 : arg9.IsWhole) (arg10 : Memref sig .scVector .vmem S64 .f32) (harg10 : arg10.IsWhole)
  (r0 r1 r2 r3 r4 : DmaSems sig S_)

attribute [local irreducible] k0_t2_body in
/-- The inner loop leaves every column repaired. -/
theorem t2_loop (f : XBuf F) (g : S512.Idx → Elt F .f32) (v2 v3 : Vec F S16 .f32) {Q : Unit → sProp (MT nD τ sig (HIx 1) (Elt F) ℕ UU ℕ)} :
    iprop((xAt d i f ∗ bAt d i g) ∗ ((xAt d i (tileOut v2 v3 g f) ∗ bAt d i g) -∗ Q ())) ⊢ wp frame (wpE (defs₀ (F := F)) 𝒱₀ (VT d i) none) Set.univ
      (Scf.Loop.for k0_t2_loop k0_t2_ok () (k0_t2_body i arg2 harg2 arg3 harg3 arg4 harg4 arg5 harg5 arg6 harg6 xB harg7 bB harg8 arg9 harg9 arg10 harg10 r0 r1 r2 r3 r4
        v2 v3)) Q := by
  have hstep : ∀ k : Fin k0_t2_loop.trips, iprop(xAt d i (doneTo v2 v3 g f (2 * k.val)) ∗ bAt d i g ∗ (emp : sProp 𝕄)) ⊢
      wp frame (wpE (defs₀ (F := F)) 𝒱₀ (VT d i) none) Set.univ
        (k0_t2_body i arg2 harg2 arg3 harg3 arg4 harg4 arg5 harg5 arg6 harg6 xB harg7 bB harg8 arg9 harg9 arg10 harg10 r0 r1 r2 r3 r4 v2 v3 k ())
        fun _ => iprop(xAt d i (doneTo v2 v3 g f (2 * (k.val + 1))) ∗ bAt d i g ∗ (emp : sProp 𝕄)) := by
    intro k
    have hk : k.val < 16 := k.isLt
    have e3 : k0_off3 k 1 = 16 * (2 * k.val) := by rw [k0_off3_eq]; show 32 * k.val = _; omega
    have e68 : k0_off68 k 1 = 16 * (2 * k.val + 1) := by rw [k0_off68_eq]; show 32 * k.val + 16 = _; omega
    refine t2_body arg2 harg2 arg3 harg3 arg4 harg4 arg5 harg5 arg6 harg6 harg7 harg8 arg9 harg9 arg10 harg10 r0 r1 r2 r3 r4 k
      (R := iprop(emp)) (Q := fun _ => iprop(xAt d i (doneTo v2 v3 g f (2 * (k.val + 1))) ∗ bAt d i g ∗ (emp : sProp 𝕄)))
      (doneTo v2 v3 g f (2 * k.val)) g v2 v3 ?_
    rw [e3, e68, repairGroup_doneTo _ _ _ _ _ (by omega), repairGroup_doneTo _ _ _ _ _ (by omega)]
    iintro H
    iexact H
  have hloop := Scf.wp_for (M := 𝕄) frame (wpE (defs₀ (F := F)) 𝒱₀ (VT d i) none) Set.univ k0_t2_loop.lb k0_t2_loop.ub k0_t2_loop.st k0_t2_ok ()
    (k0_t2_body (F := F) i arg2 harg2 arg3 harg3 arg4 harg4 arg5 harg5 arg6 harg6 xB harg7 bB harg8 arg9 harg9 arg10 harg10 r0 r1 r2 r3 r4 v2 v3)
    (fun n _ => iprop(xAt d i (doneTo v2 v3 g f (2 * n)) ∗ bAt d i g ∗ (emp : sProp 𝕄))) (fun k acc => by cases acc; exact hstep k) (Q := Q)
  iintro ⟨⟨Hx, Hb⟩, HQ⟩
  iapply hloop
  isplitl [Hx Hb]
  · rw [show 2 * 0 = 0 from rfl, doneTo_zero]
    isplitl [Hx]; · iexact Hx
    isplitl [Hb]; · iexact Hb
    iempintro
  · iintro %_ ⟨Hx, Hb, -⟩
    iapply HQ
    isplitl [Hx]
    · rw [show 2 * Scf.trips k0_t2_loop.lb k0_t2_loop.ub k0_t2_loop.st = 32 from rfl, doneTo_all]
      iexact Hx
    · iexact Hb

end Loop

end Cert.Proof.Sc

end
end
-- ==== Proof.ScBody.lean ====
/- One chunk of a tile's work: 512 columns copied in, repaired and copied out. -/
module

public import proofs.«01_k».proof.Proof.ScChunk

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S64x131072 EltTy.f32)
local notation "bV" => (Memref.whole Cert.KernelIdeal.main_arg1_scv : Memref Cert.KernelIdeal.sig Kind.scVector Space.hbm Cert.KernelIdeal.S131072 EltTy.f32)
local notation "lV" => (Memref.whole Cert.KernelIdeal.main_arg2_scv : Memref Cert.KernelIdeal.sig Kind.scVector Space.hbm Cert.KernelIdeal.S64 EltTy.f32)
local notation "uV" => (Memref.whole Cert.KernelIdeal.main_arg3_scv : Memref Cert.KernelIdeal.sig Kind.scVector Space.hbm Cert.KernelIdeal.S64 EltTy.f32)
local notation "oV" => (Memref.whole Cert.KernelIdeal.main_v4_scv : Memref Cert.KernelIdeal.sig Kind.scVector Space.hbm Cert.KernelIdeal.S64x32768 EltTy.f32)
local notation "xB" => (Memref.whole Cert.KernelIdeal.cc0_scratch0 : Memref Cert.KernelIdeal.sig Kind.scVector Space.vmem Cert.KernelIdeal.S64x512 EltTy.f32)
local notation "bB" => (Memref.whole Cert.KernelIdeal.cc0_scratch1 : Memref Cert.KernelIdeal.sig Kind.scVector Space.vmem Cert.KernelIdeal.S512 EltTy.f32)
local notation "lB" => (Memref.whole Cert.KernelIdeal.cc0_scratch2 : Memref Cert.KernelIdeal.sig Kind.scVector Space.vmem Cert.KernelIdeal.S64 EltTy.f32)
local notation "uB" => (Memref.whole Cert.KernelIdeal.cc0_scratch3 : Memref Cert.KernelIdeal.sig Kind.scVector Space.vmem Cert.KernelIdeal.S64 EltTy.f32)

variable (d : Dev nD) (i : grid0.Coords)

/-- The chunk's columns of the output, as the body slices them. -/
abbrev oSl (t : Fin k0_t1_loop.trips) : Memref sig .scVector .hbm S64x512 .f32 :=
  (oV).slice (Rect.unit (s := S64x32768) (k0_off133 i t) S64x512.size (k0_off133_inb i t)) (fun _ => rfl)

/-- The columns of chunk `B` of the transposed array, as the staging buffer holds them. -/
def xChunk (x : S64x131072.Idx → Elt F .f32) (B : ℕ) : XBuf F := fun j => x fun
  | 0 => (⟨(j 0).val, (j 0).isLt⟩ : Fin 64)
  | 1 => (⟨(B + (j 1).val) % 131072, Nat.mod_lt _ (by decide)⟩ : Fin 131072)

/-- The entries of chunk `B` of `b`, as the staging buffer holds them. -/
def bChunk (b : S131072.Idx → Elt F .f32) (B : ℕ) : S512.Idx → Elt F .f32 := fun j => b fun
  | 0 => (⟨(B + (j 0).val) % 131072, Nat.mod_lt _ (by decide)⟩ : Fin 131072)

/-- Chunk `t` of tile `i` starts at this column. -/
abbrev base (t : Fin k0_t1_loop.trips) : ℕ := 2048 * (i 1).val + 1024 * (i 0).val + 512 * t.val

theorem base_lt (t : Fin k0_t1_loop.trips) : base i t + 512 ≤ 32768 := by
  have h0 : (i 0).val < 2 := (i 0).isLt
  have h1 : (i 1).val < 16 := (i 1).isLt
  have ht : t.val < 2 := t.isLt
  unfold base; omega

/-- The chunk's columns of the transposed array and of `b`, as the body slices them. -/
abbrev xSl (t : Fin k0_t1_loop.trips) : Memref sig .scVector .hbm S64x512 .f32 :=
  (xV).slice (Rect.unit (s := S64x131072) (k0_off1 i t) S64x512.size (k0_off1_inb i t)) (fun _ => rfl)
abbrev bSl (t : Fin k0_t1_loop.trips) : Memref sig .scVector .hbm S512 .f32 :=
  (bV).slice (Rect.unit (s := S131072) (k0_off2 i t) S512.size (k0_off2_inb i t)) (fun _ => rfl)

theorem in_x (t : Fin k0_t1_loop.trips) (f : XBuf F) (x : S64x131072.Idx → Elt F .f32) :
    View.write (Elt F) (xB).view f (ReadAs.same.apply ((xSl i t).view.read (Elt F) x)) Finset.univ = xChunk x (base i t) := by
  have hb := base_lt i t
  funext j
  have hj : (j 1).val < 512 := (j 1).isLt
  refine (View.write_emb_of_mem (v := (xB).view) (Val := Elt F) f (ReadAs.same.apply ((xSl i t).view.read (Elt F) x)) (Finset.mem_univ j)).trans ?_
  show x _ = x _
  congr 1
  funext a
  fin_cases a
  · apply Fin.ext
    show k0_off1 i t 0 + 1 * (j 0).val = (j 0).val
    rw [k0_off1_eq]; show 0 + 1 * _ = _; omega
  · apply Fin.ext
    show k0_off1 i t 1 + 1 * (j 1).val = (base i t + (j 1).val) % 131072
    rw [k0_off1_eq]; show base i t + 1 * _ = _; omega

theorem in_b (t : Fin k0_t1_loop.trips) (g : S512.Idx → Elt F .f32) (b : S131072.Idx → Elt F .f32) :
    View.write (Elt F) (bB).view g (ReadAs.same.apply ((bSl i t).view.read (Elt F) b)) Finset.univ = bChunk b (base i t) := by
  have hb := base_lt i t
  funext j
  have hj : (j 0).val < 512 := (j 0).isLt
  refine (View.write_emb_of_mem (v := (bB).view) (Val := Elt F) g (ReadAs.same.apply ((bSl i t).view.read (Elt F) b)) (Finset.mem_univ j)).trans ?_
  show b _ = b _
  congr 1
  funext a
  fin_cases a
  apply Fin.ext
  show k0_off2 i t 0 + 1 * (j 0).val = (base i t + (j 0).val) % 131072
  rw [k0_off2_eq]; show base i t + 1 * _ = _; omega

/-- The array the tiles leave: every column repaired with the bounds `lv`, `uv`, each element by the chunk it lies in. -/
def scOut (lv uv : FVec F S16 .f32) (x : S64x131072.Idx → Elt F .f32) (b : S131072.Idx → Elt F .f32) : S64x32768.Idx → Elt F .f32 := fun j =>
  tileOut lv uv (bChunk b (512 * ((j 1).val / 512))) (xChunk x (512 * ((j 1).val / 512))) fun
    | 0 => (⟨(j 0).val, (j 0).isLt⟩ : Fin 64)
    | 1 => (⟨(j 1).val % 512, Nat.mod_lt _ (by decide)⟩ : Fin 512)

theorem out_o (t : Fin k0_t1_loop.trips) (lv uv : FVec F S16 .f32) (x : S64x131072.Idx → Elt F .f32) (b : S131072.Idx → Elt F .f32) (o : S64x32768.Idx → Elt F .f32) :
    ∀ j ∈ (oSl i t).view.set, (oSl i t).view.writes (Elt F) o [⟨Rect.whole S64x512,
      (ReadAs.same.apply ((xB).view.read (Elt F) (tileOut lv uv (bChunk b (base i t)) (xChunk x (base i t)))))⟩] j = scOut lv uv x b j := by
  intro j hj
  obtain ⟨k, -, hk⟩ := Finset.mem_map.1 hj
  subst hk
  have h0 : (k 0).val < 64 := (k 0).isLt
  have h1 : (k 1).val < 512 := (k 1).isLt
  rw [← View.write_univ_eq_writes_whole (oSl i t).view o []]
  refine (View.write_emb_of_mem (v := (oSl i t).view) (Val := Elt F) o _ (Finset.mem_univ k)).trans ?_
  have e0 : (((oSl i t).view.emb k) 0).val = (k 0).val := by
    show k0_off133 i t 0 + 1 * (k 0).val = _
    rw [k0_off133_eq]; show 0 + 1 * _ = _; omega
  have e1 : (((oSl i t).view.emb k) 1).val = base i t + (k 1).val := by
    show k0_off133 i t 1 + 1 * (k 1).val = _
    rw [k0_off133_eq]; show base i t + 1 * _ = _; omega
  have hq : 512 * ((((oSl i t).view.emb k) 1).val / 512) = base i t := by rw [e1]; unfold base; omega
  unfold scOut
  rw [hq]
  show tileOut _ _ _ _ k = _
  congr 1
  funext a
  fin_cases a
  · exact Fin.ext e0.symm
  · apply Fin.ext
    show (k 1).val = (((oSl i t).view.emb k) 1).val % 512
    rw [e1]; unfold base; omega

theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.1 hp with hp | hp
  · exact .inr (by rw [hp]; rfl)
  · exact h p hp

set_option maxHeartbeats 1000000 in
attribute [local irreducible] k0_t2_body in
/-- One chunk. -/
theorem chunk_run (t : Fin k0_t1_loop.trips) (v2 v3 : Vec F S16 .f32) (O : CellTallies nD τ sig (HIx 1)) (W : Waits sig (HIx 1)) (q : PosShare TreeShare)
    (x : S64x131072.Idx → Elt F .f32) (b : S131072.Idx → Elt F .f32) (f : XBuf F) (g : S512.Idx → Elt F .f32) (o : S64x32768.Idx → Elt F .f32) :
    iprop(Transfers.MayWaits (VT d i) (default : HIx 1) O
        ∗ ((xV).view.loc (VT d i) ↦{q} x) ∗ ((bV).view.loc (VT d i) ↦{q} b)
        ∗ ((oSl i t).view.loc (VT d i) ↦[(oSl i t).view.set]{fullShare} o)
        ∗ xAt d i f ∗ bAt d i g
        ∗ semVal (VT d i, SemLoc.dma cc0_scoped2.sem) 0 ∗ semVal (VT d i, SemLoc.dma cc0_scoped3.sem) 0 ∗ semVal (VT d i, SemLoc.dma cc0_scoped4.sem) 0
        ∗ owes (VT d i) O W)
      ⊢ wp frame (wpE (defs₀ (F := F)) 𝒱₀ (VT d i) none) Set.univ
        (k0_t1_body i xV (Memref.isWhole_whole _) bV (Memref.isWhole_whole _) lV (Memref.isWhole_whole _) uV (Memref.isWhole_whole _) oV (Memref.isWhole_whole _)
          xB (Memref.isWhole_whole _) bB (Memref.isWhole_whole _) lB (Memref.isWhole_whole _) uB (Memref.isWhole_whole _)
          cc0_scoped0 cc0_scoped1 cc0_scoped2 cc0_scoped3 cc0_scoped4 v2 v3 t ())
        fun _ => iprop(((xV).view.loc (VT d i) ↦{q} x) ∗ ((bV).view.loc (VT d i) ↦{q} b)
        ∗ ((oSl i t).view.loc (VT d i) ↦[(oSl i t).view.set]{fullShare} scOut v2 v3 x b)
        ∗ (∃ f, xAt d i f) ∗ (∃ g, bAt d i g)
        ∗ semVal (VT d i, SemLoc.dma cc0_scoped2.sem) 0 ∗ semVal (VT d i, SemLoc.dma cc0_scoped3.sem) 0 ∗ semVal (VT d i, SemLoc.dma cc0_scoped4.sem) 0
        ∗ ∃ W', ⌜∀ p ∈ W', p ∈ W ∨ p.2 = none⌝ ∗ owes (VT d i) O W') := by
  unfold k0_t1_body
  iintro ⟨#Hmw, Hx, Hb, Ho, HX, HB, Hs2, Hs3, Hs4, HO⟩
  sl_exec
  rw [show View.write (Elt F) (xB).view f (chunk_run.sl.dma0 i t x) Finset.univ = xChunk x (base i t) from in_x i t f x,
    show View.write (Elt F) (bB).view g (chunk_run.sl.dma0_1 i t b) Finset.univ = bChunk b (base i t) from in_b i t g b, wp_bind]
  iapply (t2_loop (d := d) (i := i) xV (Memref.isWhole_whole _) bV (Memref.isWhole_whole _) lV (Memref.isWhole_whole _) uV (Memref.isWhole_whole _) oV (Memref.isWhole_whole _)
          (Memref.isWhole_whole _) (Memref.isWhole_whole _) lB (Memref.isWhole_whole _) uB (Memref.isWhole_whole _)
          cc0_scoped0 cc0_scoped1 cc0_scoped2 cc0_scoped3 cc0_scoped4 (xChunk x (base i t)) (bChunk b (base i t)) v2 v3)
  isplitl [HX HB]
  · isplitl [HX]; · iexact HX
    iexact HB
  iintro ⟨HX, HB⟩
  sl_exec
  sl_step
  isplitl [Hx]; · iexact Hx
  isplitl [Hb]; · iexact Hb
  isplitl [Ho]
  · iapply (Entails.of_eq (pointsTo_congr (q := fullShare) (out_o i t v2 v3 x b o)))
    iexact Ho
  isplitl [HX]; · iexists _; iexact HX
  isplitl [HB]; · iexists _; iexact HB
  isplitl [Hs2]; · iexact Hs2
  isplitl [Hs3]; · iexact Hs3
  isplitl [Hs4]; · iexact Hs4
  iexists (insert (SemLoc.dma cc0_scoped4.sem, (default : HIx 1)) (insert (SemLoc.dma cc0_scoped3.sem, (default : HIx 1)) (insert (SemLoc.dma cc0_scoped2.sem, (default : HIx 1)) W)))
  isplitr
  · ipureintro
    exact waits_insert _ (waits_insert _ (waits_insert _ fun p hp => .inl hp))
  · iexact HO

/-- The first sixteen entries of a bound, as the tile loads them. -/
def first16 (l : S64.Idx → Elt F .f32) : FVec F S16 .f32 := fun k => l fun
  | 0 => (⟨(k 0).val % 64, Nat.mod_lt _ (by decide)⟩ : Fin 64)

/-- The two trips of the outer loop. -/
abbrev t0 : Fin k0_t1_loop.trips := ⟨0, by decide⟩
abbrev t1 : Fin k0_t1_loop.trips := ⟨1, by decide⟩

/-- The two trips of the outer loop, one after the other. -/
theorem t1_unroll.{v} {E : Type → Type v} (body : Fin k0_t1_loop.trips → Unit → Prog E Unit) :
    Scf.Loop.for k0_t1_loop k0_t1_ok () body = (body t0 () >>= fun a => body t1 a) := by
  rw [Scf.Loop.for, Scf.for_eq, show List.finRange (Scf.trips k0_t1_loop.lb k0_t1_loop.ub k0_t1_loop.st) = [t0, t1] by decide]
  simp only [Scf.forFrom_cons, Scf.forFrom_nil]
  congr 1
  funext a
  exact Prog.bind_pure _

theorem first16_read (l fl : S64.Idx → Elt F .f32) :
    View.readAt (Elt F) (lB).view (Rect.unit (s := S64) ![0] S16.size inb_S64_S16_0).toLoadRect
      (View.write (Elt F) (lB).view fl (ReadAs.same.apply ((lV).view.read (Elt F) l)) Finset.univ) = first16 l := by
  rw [show View.write (Elt F) (lB).view fl (ReadAs.same.apply ((lV).view.read (Elt F) l)) Finset.univ = l from View.write_whole_univ _ _ _]
  funext k
  have hk : (k 0).val < 16 := (k 0).isLt
  show l _ = l _
  congr 1
  funext a
  fin_cases a
  apply Fin.ext
  show 0 + 1 * (k 0).val = (k 0).val % 64
  omega

theorem first16_read' (u fu : S64.Idx → Elt F .f32) :
    View.readAt (Elt F) (uB).view (Rect.unit (s := S64) ![0] S16.size inb_S64_S16_0).toLoadRect
      (View.write (Elt F) (uB).view fu (ReadAs.same.apply ((uV).view.read (Elt F) u)) Finset.univ) = first16 u := by
  rw [show View.write (Elt F) (uB).view fu (ReadAs.same.apply ((uV).view.read (Elt F) u)) Finset.univ = u from View.write_whole_univ _ _ _]
  funext k
  have hk : (k 0).val < 16 := (k 0).isLt
  show u _ = u _
  congr 1
  funext a
  fin_cases a
  apply Fin.ext
  show 0 + 1 * (k 0).val = (k 0).val % 64
  omega

set_option maxHeartbeats 1000000 in
attribute [local irreducible] k0_t1_body in
/-- The tile's body. -/
theorem tile_run (O : CellTallies nD τ sig (HIx 1)) (W : Waits sig (HIx 1)) (q : PosShare TreeShare)
    (x : S64x131072.Idx → Elt F .f32) (b : S131072.Idx → Elt F .f32) (l u : S64.Idx → Elt F .f32)
    (f : XBuf F) (g : S512.Idx → Elt F .f32) (fl fu : S64.Idx → Elt F .f32) (o : S64x32768.Idx → Elt F .f32) :
    iprop(Transfers.MayWaits (VT d i) (default : HIx 1) O
        ∗ ((xV).view.loc (VT d i) ↦{q} x) ∗ ((bV).view.loc (VT d i) ↦{q} b) ∗ ((lV).view.loc (VT d i) ↦{q} l) ∗ ((uV).view.loc (VT d i) ↦{q} u)
        ∗ ((oSl i t0).view.loc (VT d i) ↦[(oSl i t0).view.set]{fullShare} o)
        ∗ ((oSl i t1).view.loc (VT d i) ↦[(oSl i t1).view.set]{fullShare} o)
        ∗ xAt d i f ∗ bAt d i g ∗ ((lB).view.loc (VT d i) ↦{fullShare} fl) ∗ ((uB).view.loc (VT d i) ↦{fullShare} fu)
        ∗ semVal (VT d i, SemLoc.dma cc0_scoped0.sem) 0 ∗ semVal (VT d i, SemLoc.dma cc0_scoped1.sem) 0
        ∗ semVal (VT d i, SemLoc.dma cc0_scoped2.sem) 0 ∗ semVal (VT d i, SemLoc.dma cc0_scoped3.sem) 0 ∗ semVal (VT d i, SemLoc.dma cc0_scoped4.sem) 0
        ∗ owes (VT d i) O W)
      ⊢ wp frame (wpE (defs₀ (F := F)) 𝒱₀ (VT d i) none) Set.univ
        (cc0__sc_body i xV (Memref.isWhole_whole _) bV (Memref.isWhole_whole _) lV (Memref.isWhole_whole _) uV (Memref.isWhole_whole _) oV (Memref.isWhole_whole _)
          xB (Memref.isWhole_whole _) bB (Memref.isWhole_whole _) lB (Memref.isWhole_whole _) uB (Memref.isWhole_whole _)
          cc0_scoped0 cc0_scoped1 cc0_scoped2 cc0_scoped3 cc0_scoped4)
        fun _ => iprop(((xV).view.loc (VT d i) ↦{q} x) ∗ ((bV).view.loc (VT d i) ↦{q} b) ∗ ((lV).view.loc (VT d i) ↦{q} l) ∗ ((uV).view.loc (VT d i) ↦{q} u)
        ∗ ((oSl i t0).view.loc (VT d i) ↦[(oSl i t0).view.set]{fullShare} scOut (first16 l) (first16 u) x b)
        ∗ ((oSl i t1).view.loc (VT d i) ↦[(oSl i t1).view.set]{fullShare} scOut (first16 l) (first16 u) x b)
        ∗ (∃ f, xAt d i f) ∗ (∃ g, bAt d i g) ∗ (∃ f, (lB).view.loc (VT d i) ↦{fullShare} f) ∗ (∃ f, (uB).view.loc (VT d i) ↦{fullShare} f)
        ∗ semVal (VT d i, SemLoc.dma cc0_scoped0.sem) 0 ∗ semVal (VT d i, SemLoc.dma cc0_scoped1.sem) 0
        ∗ semVal (VT d i, SemLoc.dma cc0_scoped2.sem) 0 ∗ semVal (VT d i, SemLoc.dma cc0_scoped3.sem) 0 ∗ semVal (VT d i, SemLoc.dma cc0_scoped4.sem) 0
        ∗ ∃ W', ⌜∀ p ∈ W', p ∈ W ∨ p.2 = none⌝ ∗ owes (VT d i) O W') := by
  rw [cc0__sc_body_eq_skeleton]
  unfold cc0__sc_body_skel
  iintro ⟨#Hmw, Hx, Hb, Hl, Hu, Ho0, Ho1, HX, HB, HL, HU, Hs0, Hs1, Hs2, Hs3, Hs4, HO⟩
  sl_exec
  rw [show View.readAt (Elt F) (lB).view (Rect.unit (s := S64) ![0] S16.size inb_S64_S16_0).toLoadRect
      (View.write (Elt F) (lB).view fl (tile_run.sl.dma0 l) Finset.univ) = first16 l from first16_read l fl,
    show View.readAt (Elt F) (uB).view (Rect.unit (s := S64) ![0] S16.size inb_S64_S16_0).toLoadRect
      (View.write (Elt F) (uB).view fu (tile_run.sl.dma0_1 u) Finset.univ) = first16 u from first16_read' u fu,
    t1_unroll, wp_bind, wp_bind]
  iapply (wp_wand_r Idealize.ShloMosaic.frame (wpE (defs₀ (F := F)) 𝒱₀ (VT d i) none) Set.univ)
  isplitl [Hx Hb Ho0 HX HB Hs2 Hs3 Hs4 HO]
  · iapply (chunk_run d i t0 (first16 l) (first16 u) O _ q x b f g o)
    isplitr; · iexact Hmw
    isplitl [Hx]; · iexact Hx
    isplitl [Hb]; · iexact Hb
    isplitl [Ho0]; · iexact Ho0
    isplitl [HX]; · iexact HX
    isplitl [HB]; · iexact HB
    isplitl [Hs2]; · iexact Hs2
    isplitl [Hs3]; · iexact Hs3
    isplitl [Hs4]; · iexact Hs4
    iexact HO
  iintro %_ ⟨Hx, Hb, Ho0, ⟨%f1, HX⟩, ⟨%g1, HB⟩, Hs2, Hs3, Hs4, %W1, %hW1, HO⟩
  iapply (wp_wand_r Idealize.ShloMosaic.frame (wpE (defs₀ (F := F)) 𝒱₀ (VT d i) none) Set.univ)
  isplitl [Hx Hb Ho1 HX HB Hs2 Hs3 Hs4 HO]
  · iapply (chunk_run d i t1 (first16 l) (first16 u) O W1 q x b f1 g1 o)
    isplitr; · iexact Hmw
    isplitl [Hx]; · iexact Hx
    isplitl [Hb]; · iexact Hb
    isplitl [Ho1]; · iexact Ho1
    isplitl [HX]; · iexact HX
    isplitl [HB]; · iexact HB
    isplitl [Hs2]; · iexact Hs2
    isplitl [Hs3]; · iexact Hs3
    isplitl [Hs4]; · iexact Hs4
    iexact HO
  iintro %_ ⟨Hx, Hb, Ho1, ⟨%f2, HX⟩, ⟨%g2, HB⟩, Hs2, Hs3, Hs4, %W2, %hW2, HO⟩
  sl_step
  isplitl [Hx]; · iexact Hx
  isplitl [Hb]; · iexact Hb
  isplitl [Hl]; · iexact Hl
  isplitl [Hu]; · iexact Hu
  isplitl [Ho0]; · iexact Ho0
  isplitl [Ho1]; · iexact Ho1
  isplitl [HX]; · iexists _; iexact HX
  isplitl [HB]; · iexists _; iexact HB
  isplitl [HL]; · iexists _; iexact HL
  isplitl [HU]; · iexists _; iexact HU
  isplitl [Hs0]; · iexact Hs0
  isplitl [Hs1]; · iexact Hs1
  isplitl [Hs2]; · iexact Hs2
  isplitl [Hs3]; · iexact Hs3
  isplitl [Hs4]; · iexact Hs4
  iexists W2
  isplitr
  · ipureintro
    intro p hp
    rcases hW2 p hp with hp | hp
    · rcases hW1 p hp with hp | hp
      · exact waits_insert _ (waits_insert _ fun p hp => .inl hp) p hp
      · exact .inr hp
    · exact .inr hp
  · iexact HO

end Cert.Proof.Sc

end
end
-- ==== Proof.ScLaunch.lean ====
/- The SparseCore call as the launch takes it: what the handshakes carry, the tiles' obligation, and how a SparseCore's
   operands are dealt to its tiles. -/
module

public import proofs.«01_k».proof.Proof.ScBody

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S64x131072 EltTy.f32)
local notation "bV" => (Memref.whole Cert.KernelIdeal.main_arg1_scv : Memref Cert.KernelIdeal.sig Kind.scVector Space.hbm Cert.KernelIdeal.S131072 EltTy.f32)
local notation "lV" => (Memref.whole Cert.KernelIdeal.main_arg2_scv : Memref Cert.KernelIdeal.sig Kind.scVector Space.hbm Cert.KernelIdeal.S64 EltTy.f32)
local notation "uV" => (Memref.whole Cert.KernelIdeal.main_arg3_scv : Memref Cert.KernelIdeal.sig Kind.scVector Space.hbm Cert.KernelIdeal.S64 EltTy.f32)
local notation "oV" => (Memref.whole Cert.KernelIdeal.main_v4_scv : Memref Cert.KernelIdeal.sig Kind.scVector Space.hbm Cert.KernelIdeal.S64x32768 EltTy.f32)
local notation "xB" => (Memref.whole Cert.KernelIdeal.cc0_scratch0 : Memref Cert.KernelIdeal.sig Kind.scVector Space.vmem Cert.KernelIdeal.S64x512 EltTy.f32)
local notation "bB" => (Memref.whole Cert.KernelIdeal.cc0_scratch1 : Memref Cert.KernelIdeal.sig Kind.scVector Space.vmem Cert.KernelIdeal.S512 EltTy.f32)
local notation "lB" => (Memref.whole Cert.KernelIdeal.cc0_scratch2 : Memref Cert.KernelIdeal.sig Kind.scVector Space.vmem Cert.KernelIdeal.S64 EltTy.f32)
local notation "uB" => (Memref.whole Cert.KernelIdeal.cc0_scratch3 : Memref Cert.KernelIdeal.sig Kind.scVector Space.vmem Cert.KernelIdeal.S64 EltTy.f32)

variable (m : (ℓ : Loc nD τ sig) → Buf (Elt F) ℓ)

/-! ## What the handshakes carry -/

abbrev xLoc (d : Dev nD) : Loc nD τ sig := (SparseCore.T d).loc main_v0
abbrev bLoc (d : Dev nD) : Loc nD τ sig := (SparseCore.T d).loc main_arg1
abbrev lLoc (d : Dev nD) : Loc nD τ sig := (SparseCore.T d).loc main_arg2
abbrev uLoc (d : Dev nD) : Loc nD τ sig := (SparseCore.T d).loc main_arg3
abbrev oLoc (d : Dev nD) : Loc nD τ sig := (SparseCore.T d).loc main_v4

/-- The array transposed, -/
def xT (d : Dev nD) : Buf (Elt F) (xLoc d) := transpose S64x131072 [1, 0] (m ((SparseCore.T d).loc main_arg0)) transposes_S131072x64_S64x131072_1_0
/-- and what the tiles make of its first columns. -/
def scRes (d : Dev nD) : Buf (Elt F) (oLoc d) := scOut (first16 (m (lLoc d))) (first16 (m (uLoc d))) (xT m d) (m (bLoc d))

/-- Tile `s` of SparseCore `c`. -/
def coordsV (c : Fin 2) (s : Fin 16) : grid0.Coords :=
  fun | 0 => c | 1 => s | ⟨_ + 2, h⟩ => absurd h (Nat.not_lt.2 (Nat.le_add_left _ _))

/-- A tile's number, and the read share it is dealt of each input. -/
abbrev wid (L : grid0.Coords) : ℕ := 2 * (L 1).val + (L 0).val
abbrev tok (L : grid0.Coords) : PosShare TreeShare := Transfers.shareTokN fullShare (wid L)

/-- A tile's share of the inputs, and its two chunks of the output at contents `o`. -/
abbrev tile (d : Dev nD) (L : grid0.Coords) (o : Buf (Elt F) (oLoc d)) : sProp 𝕄 :=
  iprop((xLoc d ↦{tok L} xT m d) ∗ (bLoc d ↦{tok L} m (bLoc d)) ∗ (lLoc d ↦{tok L} m (lLoc d)) ∗ (uLoc d ↦{tok L} m (uLoc d))
    ∗ (oLoc d ↦[(oSl L t0).view.set]{fullShare} o) ∗ (oLoc d ↦[(oSl L t1).view.set]{fullShare} o))

/-- The call takes, for each SparseCore, its tiles' pieces, and hands them back with the output's at what the tiles computed. -/
def P : (K (F := F)).Pay (nD := nD) (Val := Elt F) (Name := ℕ) (U := UU) where
  st := fun q d c => match q with | 0 => bigSep Finset.univ fun i : Fin 16 => tile m d (coordsV (Fin.cast nCore_zero c) i) (m (oLoc d))
  dn := fun q d c => match q with | 0 => bigSep Finset.univ fun i : Fin 16 => tile m d (coordsV (Fin.cast nCore_zero c) i) (scRes m d)
  go := fun q d c i => match q with | 0 => tile m d (coordsV (Fin.cast nCore_zero c) (Fin.cast nSub_zero i)) (m (oLoc d))
  td := fun q d c i => match q with | 0 => tile m d (coordsV (Fin.cast nCore_zero c) (Fin.cast nSub_zero i)) (scRes m d)
  x := fun _ _ => iprop(emp)

instance P_storable : (P (F := F) m).IsStorable where
  st q d c := match q with
    | 0 => (inferInstance : BI.Storable (upEmb : UEmb _ 𝕄) (bigSep Finset.univ fun i : Fin 16 => tile m d (coordsV (Fin.cast nCore_zero c) i) (m (oLoc d))))
  dn q d c := match q with
    | 0 => (inferInstance : BI.Storable (upEmb : UEmb _ 𝕄) (bigSep Finset.univ fun i : Fin 16 => tile m d (coordsV (Fin.cast nCore_zero c) i) (scRes m d)))
  go q d c i := match q with
    | 0 => (inferInstance : BI.Storable (upEmb : UEmb _ 𝕄) (tile m d (coordsV (Fin.cast nCore_zero c) (Fin.cast nSub_zero i)) (m (oLoc d))))
  td q d c i := match q with
    | 0 => (inferInstance : BI.Storable (upEmb : UEmb _ 𝕄) (tile m d (coordsV (Fin.cast nCore_zero c) (Fin.cast nSub_zero i)) (scRes m d)))

/-! ## The tile's own cells and buffers -/

section Tile

variable (d : Dev nD) (L : grid0.Coords)

/-- The five semaphores of the tile's copies. -/
abbrev csem (k : Fin 5) : DmaSem sig := ⟨k.val, k.isLt.trans (by decide)⟩
abbrev ccell (k : Fin 5) : GSem nD τ sig := (VT d L, .dma (csem k))
abbrev cells0 : sProp 𝕄 :=
  iprop(semVal (VT d L, SemLoc.dma cc0_scoped0.sem) 0 ∗ semVal (VT d L, SemLoc.dma cc0_scoped1.sem) 0 ∗ semVal (VT d L, SemLoc.dma cc0_scoped2.sem) 0
    ∗ semVal (VT d L, SemLoc.dma cc0_scoped3.sem) 0 ∗ semVal (VT d L, SemLoc.dma cc0_scoped4.sem) 0)

omit [FloatOps F] in
/-- The tile's own cells at zero: its copies' five, and the rest. -/
theorem ownSems0_V :
    (ownSems0 (VT d L) : sProp 𝕄)
      = iprop(cells0 d L ∗ bigSep ((ownCells (VT d L)) \ Finset.univ.image (ccell d L)) fun g => semVal g 0) := by
  have hmem : Finset.univ.image (ccell d L) ⊆ ownCells (VT d L) := by
    intro g hg
    obtain ⟨k, -, rfl⟩ := Finset.mem_image.1 hg
    exact mem_ownCells.mpr ⟨rfl, (show ∀ k : Fin 5, (SemLoc.dma (csem k) : SemLoc sig).isScoped .scVector = true by decide) k⟩
  have hinj : ∀ a ∈ (Finset.univ : Finset (Fin 5)), ∀ b ∈ (Finset.univ : Finset (Fin 5)), ccell d L a = ccell d L b → a = b := by
    intro a _ b _ h
    have h' := congrArg Prod.snd h
    simp only [SemLoc.dma.injEq, Fin.mk.injEq] at h'
    exact Fin.ext h'
  unfold SparseCore.Cfg.ownSems0
  rw [SparseCore.bigSep_sdiff_split' hmem, SparseCore.bigSep_image_of_injOn hinj,
    show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The tile's own buffers beside its four scratch arrays. -/
abbrev restRefs : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (restRefs L) fun b => iprop(∃ f, ((d, b) : Loc nD τ sig) ↦{fullShare} f)) := by
  have own (b : Ref sig .scVector) (hb : ((Proc.scVector (cV L) (jV L)).devRef b).owner = .proc (Proc.scVector (cV L) (jV L))) :
      (Proc.scVector (cV L) (jV L)).devRef b ∈ ownRefs (τ := τ) (.scVector (cV L) (jV L)) := SparseCore.Cfg.mem_ownRefs_of_owner hb
  have ne {a b : Ref sig .scVector} (h : a ≠ b) : (Proc.scVector (cV L) (jV L)).devRef a ≠ (Proc.scVector (cV L) (jV L)).devRef b :=
    fun e => h (Proc.devRef_injective _ e)
  unfold SparseCore.Cfg.ownBufs restRefs
  refine (SparseCore.bigSep_erase' (own cc0_scratch0 rfl)).trans ?_
  rw [SparseCore.bigSep_erase' (Finset.mem_erase.mpr ⟨ne (show cc0_scratch1 ≠ cc0_scratch0 by decide), own cc0_scratch1 rfl⟩),
    SparseCore.bigSep_erase' (Finset.mem_erase.mpr ⟨ne (show cc0_scratch2 ≠ cc0_scratch1 by decide), Finset.mem_erase.mpr ⟨ne (show cc0_scratch2 ≠ cc0_scratch0 by decide), own cc0_scratch2 rfl⟩⟩),
    SparseCore.bigSep_erase' (Finset.mem_erase.mpr ⟨ne (show cc0_scratch3 ≠ cc0_scratch2 by decide), Finset.mem_erase.mpr ⟨ne (show cc0_scratch3 ≠ cc0_scratch1 by decide), Finset.mem_erase.mpr ⟨ne (show cc0_scratch3 ≠ cc0_scratch0 by decide), own cc0_scratch3 rfl⟩⟩⟩)]

/-! ## The obligation -/

/-- The tile's task, from what the launch deals it to what it hands back. -/
theorem tile_body (O : CellTallies nD τ sig (HIx 1)) (W : Waits sig (HIx 1)) (hO : ∀ g, O g none = 0) :
    iprop(levAts (K (F := F)).L (K (F := F)).lev ∗ emp ∗ tile m d L (m (oLoc d))
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) bV (Memref.isWhole_whole _) lV (Memref.isWhole_whole _) uV (Memref.isWhole_whole _) oV (Memref.isWhole_whole _)
            xB (Memref.isWhole_whole _) bB (Memref.isWhole_whole _) lB (Memref.isWhole_whole _) uB (Memref.isWhole_whole _)
            cc0_scoped0 cc0_scoped1 cc0_scoped2 cc0_scoped3 cc0_scoped4)
          fun _ => iprop(tile m d L (scRes m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  iintro ⟨#Hlv, -, ⟨Hx, Hb, Hl, Hu, Ho0, Ho1⟩, ⟨⟨%f, HX⟩, ⟨%g, HB⟩, ⟨%fl, HL⟩, ⟨%fu, HU⟩, Hbufs⟩, ⟨⟨Hs0, Hs1, Hs2, Hs3, Hs4⟩, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hmw Hx Hb Hl Hu Ho0 Ho1 HX HB HL HU Hs0 Hs1 Hs2 Hs3 Hs4 HO]
  · iapply (tile_run d L O W (tok L) (xT m d) (m (bLoc d)) (m (lLoc d)) (m (uLoc d)) f g fl fu (m (oLoc d)))
    isplitl [Hmw]; · iexact Hmw
    isplitl [Hx]; · iexact Hx
    isplitl [Hb]; · iexact Hb
    isplitl [Hl]; · iexact Hl
    isplitl [Hu]; · iexact Hu
    isplitl [Ho0]; · iexact Ho0
    isplitl [Ho1]; · iexact Ho1
    isplitl [HX]; · iexact HX
    isplitl [HB]; · iexact HB
    isplitl [HL]; · iexact HL
    isplitl [HU]; · iexact HU
    isplitl [Hs0]; · iexact Hs0
    isplitl [Hs1]; · iexact Hs1
    isplitl [Hs2]; · iexact Hs2
    isplitl [Hs3]; · iexact Hs3
    isplitl [Hs4]; · iexact Hs4
    iexact HO
  iintro %_ ⟨Hx, Hb, Hl, Hu, Ho0, Ho1, HX, HB, HL, HU, Hs0, Hs1, Hs2, Hs3, Hs4, %W', %hW', HO⟩
  isplitl [Hx Hb Hl Hu Ho0 Ho1]
  · isplitl [Hx]; · iexact Hx
    isplitl [Hb]; · iexact Hb
    isplitl [Hl]; · iexact Hl
    isplitl [Hu]; · iexact Hu
    isplitl [Ho0]; · iexact Ho0
    iexact Ho1
  isplitl [HX HB HL HU Hbufs]
  · isplitl [HX]; · iexact HX
    isplitl [HB]; · iexact HB
    isplitl [HL]; · iexact HL
    isplitl [HU]; · iexact HU
    iexact Hbufs
  isplitl [Hs0 Hs1 Hs2 Hs3 Hs4 Hsems]
  · isplitr [Hsems]
    · isplitl [Hs0]; · iexact Hs0
      isplitl [Hs1]; · iexact Hs1
      isplitl [Hs2]; · iexact Hs2
      isplitl [Hs3]; · iexact Hs3
      iexact Hs4
    · iexact Hsems
  iexists W'; isplitr
  · ipureintro; exact fun p hp => (hW' p hp).elim .inl fun h => .inr (.inl h)
  · iexact HO

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) bV (Memref.isWhole_whole _) lV (Memref.isWhole_whole _) uV (Memref.isWhole_whole _) oV (Memref.isWhole_whole _)
          xB (Memref.isWhole_whole _) bB (Memref.isWhole_whole _) lB (Memref.isWhole_whole _) uB (Memref.isWhole_whole _)
          cc0_scoped0 cc0_scoped1 cc0_scoped2 cc0_scoped3 cc0_scoped4) ⟨⟩ c s := rfl

end Tile

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

/-! ## The tiles' pieces -/

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tile m d (coordsV (Fin.cast nCore_zero c) i) (m (oLoc d))) ⊢ |={Set.univ}=> iprop(
      (bigSep Finset.univ fun i : Fin ((K (F := F)).nSub 0) => tile m d (coordsV (Fin.cast nCore_zero c) (Fin.cast nSub_zero i)) (m (oLoc d)))
      ∗ ((bigSep Finset.univ fun i : Fin ((K (F := F)).nSub 0) => tile m d (coordsV (Fin.cast nCore_zero c) (Fin.cast nSub_zero i)) (scRes m d))
          -∗ bigSep Finset.univ fun i : Fin 16 => tile m d (coordsV (Fin.cast nCore_zero c) i) (scRes m d)))
  rw [bigSep_tiles (F := F) (fun i => tile m d (coordsV (Fin.cast nCore_zero c) i) (m (oLoc d))),
    bigSep_tiles (F := F) (fun i => tile m d (coordsV (Fin.cast nCore_zero c) i) (scRes m d))]
  iintro H; imodintro
  isplitl [H]; · iexact H
  iintro H; iexact H

end Cert.Proof.Sc

end
end
-- ==== Proof.ScSplit.lean ====
/- The call's operands dealt to the tiles and collected again: the inputs as read shares, one per tile, and the output by the
   chunks of columns the tiles write. -/
module

public import proofs.«01_k».proof.Proof.ScLaunch

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-- One assertion per tile. -/
abbrev deal (Φ : grid0.Coords → sProp 𝕄) : sProp 𝕄 :=
  bigSep Finset.univ fun c : Fin 2 => bigSep Finset.univ fun i : Fin 16 => Φ (coordsV c i)

/-- The tiles' numbers are the numbers below 32. -/
def widEmb : (Fin 2 × Fin 16) ↪ ℕ :=
  ⟨fun p => 2 * p.2.val + p.1.val, fun p q h => by
    have h' : 2 * p.2.val + p.1.val = 2 * q.2.val + q.1.val := h
    have := p.1.isLt; have := q.1.isLt
    exact Prod.ext (Fin.ext (by omega)) (Fin.ext (by omega))⟩

omit [FloatOps F] in
theorem range_deal (Ψ : ℕ → sProp 𝕄) : bigSep (Finset.range 32) Ψ = deal (F := F) fun L => Ψ (wid L) := by
  rw [show Finset.range 32 = (Finset.univ : Finset (Fin 2 × Fin 16)).map widEmb by decide, bigSep_map, bigSep_univ_prod]
  rfl

omit [FloatOps F] in
/-- A buffer read by every tile: a share for each, and a rest. -/
theorem toks_deal (ℓ : Loc nD τ sig) (f : Buf (Elt F) ℓ) :
    (ℓ ↦{fullShare} f : sProp 𝕄) ⊣⊢ iprop((ℓ ↦{Transfers.shareDrop fullShare 32} f) ∗ deal (F := F) fun L => ℓ ↦{tok L} f) := by
  rw [← range_deal fun w => (ℓ ↦{Transfers.shareTokN fullShare w} f : sProp 𝕄)]
  exact Transfers.pointsTo_toks_range fullShare 32

/-- The chunk of the output a tile's pass writes: 512 columns from its first. -/
theorem mem_oSl (L : grid0.Coords) (t : Fin k0_t1_loop.trips) (j : S64x32768.Idx) :
    j ∈ (oSl L t).view.set ↔ base L t ≤ (j 1).val ∧ (j 1).val < base L t + 512 := by
  rw [show (oSl L t).view.set = (Rect.unit (s := S64x32768) (k0_off133 L t) S64x512.size (k0_off133_inb L t)).set from View.set_slice_whole _ _,
    Rect.mem_set_unit, k0_off133_eq]
  constructor
  · intro h; exact h 1
  · intro h a
    fin_cases a
    · exact ⟨Nat.zero_le _, by have : (j 0).val < 64 := (j 0).isLt; show (j 0).val < 0 + 64; omega⟩
    · exact h

/-- The two passes. -/
def pass (t : Fin 2) : Fin k0_t1_loop.trips := match t with | 0 => t0 | 1 => t1

theorem pass_val (t : Fin 2) : (pass t).val = t.val := by fin_cases t <;> rfl

theorem base_coordsV (c : Fin 2) (i : Fin 16) (t : Fin 2) : base (coordsV c i) (pass t) = 2048 * i.val + 1024 * c.val + 512 * t.val := by
  unfold base; rw [pass_val]; rfl

/-- The chunks cover the output, -/
theorem chunks_cover :
    ((Finset.univ : Finset ((Fin 2 × Fin 16) × Fin 2)).biUnion fun p => (oSl (coordsV p.1.1 p.1.2) (pass p.2)).view.set)
      = (Finset.univ : Finset S64x32768.Idx) := by
  ext j
  simp only [Finset.mem_biUnion, Finset.mem_univ, true_and, iff_true]
  have hj : (j 1).val < 32768 := (j 1).isLt
  refine ⟨((⟨(j 1).val / 1024 % 2, by omega⟩, ⟨(j 1).val / 2048, by omega⟩), ⟨(j 1).val / 512 % 2, by omega⟩), ?_⟩
  rw [mem_oSl, base_coordsV]
  dsimp only
  omega

/-- and no two meet. -/
theorem chunks_disjoint (p q : (Fin 2 × Fin 16) × Fin 2) (h : p ≠ q) :
    Disjoint (oSl (coordsV p.1.1 p.1.2) (pass p.2)).view.set (oSl (coordsV q.1.1 q.1.2) (pass q.2)).view.set := by
  rw [Finset.disjoint_left]
  intro j hp hq
  rw [mem_oSl, base_coordsV] at hp hq
  apply h
  have := p.1.1.isLt; have := q.1.1.isLt; have := p.2.isLt; have := q.2.isLt
  exact Prod.ext (Prod.ext (Fin.ext (by omega)) (Fin.ext (by omega))) (Fin.ext (by omega))

omit [FloatOps F] in
/-- The output, chunk by chunk. -/
theorem out_deal (d : Dev nD) (o : Buf (Elt F) (oLoc d)) :
    (oLoc d ↦{fullShare} o : sProp 𝕄)
      = deal (F := F) fun L => iprop((oLoc d ↦[(oSl L t0).view.set]{fullShare} o) ∗ (oLoc d ↦[(oSl L t1).view.set]{fullShare} o)) := by
  have h := pointsTo_biUnion (Ix := HIx 1) (Name := ℕ) (U := UU) (Lvl := ℕ) (ℓ := oLoc d) (q := fullShare) (f := o) (Finset.univ : Finset ((Fin 2 × Fin 16) × Fin 2))
    (fun p => (oSl (coordsV p.1.1 p.1.2) (pass p.2)).view.set) (fun p _ q _ hne => chunks_disjoint p q hne)
  rw [chunks_cover] at h
  refine (show _ = _ from h).trans ?_
  rw [bigSep_univ_prod, bigSep_univ_prod]
  refine bigSep_congr fun c _ => bigSep_congr fun i _ => ?_
  rw [bigSep_fin_two]
  rfl

/-- What stays behind of the inputs while the tiles run. -/
def kept (d : Dev nD) : sProp 𝕄 :=
  iprop((xLoc d ↦{Transfers.shareDrop fullShare 32} xT m d) ∗ (bLoc d ↦{Transfers.shareDrop fullShare 32} m (bLoc d))
    ∗ (lLoc d ↦{Transfers.shareDrop fullShare 32} m (lLoc d)) ∗ (uLoc d ↦{Transfers.shareDrop fullShare 32} m (uLoc d)))

/-- The call's operands, whole. -/
def whole5 (d : Dev nD) (o : Buf (Elt F) (oLoc d)) : sProp 𝕄 :=
  iprop((xLoc d ↦{fullShare} xT m d) ∗ (bLoc d ↦{fullShare} m (bLoc d)) ∗ (lLoc d ↦{fullShare} m (lLoc d))
    ∗ (uLoc d ↦{fullShare} m (uLoc d)) ∗ (oLoc d ↦{fullShare} o))

theorem deal_tile (d : Dev nD) (o : Buf (Elt F) (oLoc d)) :
    deal (F := F) (fun L => tile m d L o)
      = iprop(deal (F := F) (fun L => xLoc d ↦{tok L} xT m d) ∗ deal (F := F) (fun L => bLoc d ↦{tok L} m (bLoc d))
        ∗ deal (F := F) (fun L => lLoc d ↦{tok L} m (lLoc d)) ∗ deal (F := F) (fun L => uLoc d ↦{tok L} m (uLoc d))
        ∗ (oLoc d ↦{fullShare} o)) := by
  rw [out_deal]
  simp only [deal, tile, bigSep_sep']

theorem whole5_split (d : Dev nD) (o : Buf (Elt F) (oLoc d)) :
    whole5 m d o ⊢ iprop(kept m d ∗ deal (F := F) fun L => tile m d L o) := by
  rw [deal_tile]
  unfold whole5 kept
  iintro ⟨Hx, Hb, Hl, Hu, Ho⟩
  ihave Hx := (toks_deal (xLoc d) (xT m d)).1 $$ Hx
  ihave Hb := (toks_deal (bLoc d) (m (bLoc d))).1 $$ Hb
  ihave Hl := (toks_deal (lLoc d) (m (lLoc d))).1 $$ Hl
  ihave Hu := (toks_deal (uLoc d) (m (uLoc d))).1 $$ Hu
  icases Hx with ⟨Hx, Hx'⟩
  icases Hb with ⟨Hb, Hb'⟩
  icases Hl with ⟨Hl, Hl'⟩
  icases Hu with ⟨Hu, Hu'⟩
  isplitl [Hx Hb Hl Hu]
  · isplitl [Hx]; · iexact Hx
    isplitl [Hb]; · iexact Hb
    isplitl [Hl]; · iexact Hl
    iexact Hu
  isplitl [Hx']; · iexact Hx'
  isplitl [Hb']; · iexact Hb'
  isplitl [Hl']; · iexact Hl'
  isplitl [Hu']; · iexact Hu'
  iexact Ho

theorem whole5_join (d : Dev nD) (o : Buf (Elt F) (oLoc d)) :
    iprop(kept m d ∗ deal (F := F) fun L => tile m d L o) ⊢ whole5 m d o := by
  rw [deal_tile]
  unfold whole5 kept
  iintro ⟨⟨Hx, Hb, Hl, Hu⟩, Hx', Hb', Hl', Hu', Ho⟩
  isplitl [Hx Hx']; · iapply (toks_deal (xLoc d) (xT m d)).2; isplitl [Hx] <;> iassumption
  isplitl [Hb Hb']; · iapply (toks_deal (bLoc d) (m (bLoc d))).2; isplitl [Hb] <;> iassumption
  isplitl [Hl Hl']; · iapply (toks_deal (lLoc d) (m (lLoc d))).2; isplitl [Hl] <;> iassumption
  isplitl [Hu Hu']; · iapply (toks_deal (uLoc d) (m (uLoc d))).2; isplitl [Hu] <;> iassumption
  iexact Ho

/-- What the call takes and hands back, over all SparseCores. -/
theorem st0_eq (d : Dev nD) : (bigSep Finset.univ fun c : Fin ((K (F := F)).nCore 0) => (P m).st 0 d c) = deal (F := F) fun L => tile m d L (m (oLoc d)) := rfl
theorem dn0_eq (d : Dev nD) : (bigSep Finset.univ fun c : Fin ((K (F := F)).nCore 0) => (P m).dn 0 d c) = deal (F := F) fun L => tile m d L (scRes m d) := rfl

end Cert.Proof.Sc

end
end
-- ==== Proof.TcBody.lean ====
/- The TensorCore kernel's body at one grid point: the block it computes from its four operands' blocks, and its run on any
   staging buffers. -/
module

public import proofs.«01_k».proof.Proof.ScSetup
public import Idealize.ShloMosaic.Lib.Pipeline.FrameBody
public import Idealize.ShloMosaic.Lib.Pipeline.Value
public import Idealize.ShloMosaic.Lib.VecWindow

@[expose] public section

noncomputable section

namespace Cert.Proof.Sc

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The one entry of a bounds row the TensorCore kernel reads. -/
abbrev firstL (l : S1x64.Idx → Elt F .f32) : Vec F S1x1 .f32 :=
  View.ld l (Rect.unit (s := S1x64) ![0, 0] S1x1.size inb_S1x64_S1x1_0_0)

/-- The block the body stores, from the four blocks it loads. -/
def tcBlock (x : Vec F S64x4096 .f32) (b : Vec F S1x4096 .f32) (v4 v6 : Vec F S1x1 .f32) : FVec F S64x4096 .f32 :=
  k1_pay1 (k1_pay2 x) (k1_pay4 v4) (k1_pay5 v6) (Scalar.cmpf .oeq (k1_pay4 v4) (k1_pay5 v6)) (k1_pay10 b v4) (k1_pay11 b v6)
    (k1_pay12 x b v4 v6) (k1_pay14 x b v4 v6) (k1_pay15 x b v4 v6) (k1_pay16 b v4 v6) (k1_pay17 x b v4 v6)

/-- The body on whole staging buffers. -/
theorem tc_run (c : Dev nD) (i : grid1.Coords) (M1 : Memref sig .tc .vmem S64x4096 .f32) (h1 : M1.IsWhole)
    (M2 : Memref sig .tc .vmem S1x4096 .f32) (h2 : M2.IsWhole) (M3 : Memref sig .tc .vmem S1x64 .f32) (h3 : M3.IsWhole)
    (M4 : Memref sig .tc .vmem S1x64 .f32) (h4 : M4.IsWhole) (M5 : Memref sig .tc .vmem S64x4096 .f32) (h5 : M5.IsWhole)
    (x : S64x4096.Idx → Elt F .f32) (b : S1x4096.Idx → Elt F .f32) (l u : S1x64.Idx → Elt F .f32) (E : Set ℕ) (Q : PUnit → sProp 𝕄) :
    iprop(owns (c : Thread nD τ) M1 fullShare x ∗ owns (c : Thread nD τ) M2 fullShare b ∗ owns (c : Thread nD τ) M3 fullShare l
        ∗ owns (c : Thread nD τ) M4 fullShare u ∗ (∃ d, owns (c : Thread nD τ) M5 fullShare d)
        ∗ (iprop(owns (c : Thread nD τ) M1 fullShare x ∗ owns (c : Thread nD τ) M2 fullShare b ∗ owns (c : Thread nD τ) M3 fullShare l
          ∗ owns (c : Thread nD τ) M4 fullShare u ∗ owns (c : Thread nD τ) M5 fullShare (tcBlock x b (firstL l) (firstL u))) -∗ Q ⟨⟩))
      ⊢ wp frame (wpE (defs₀ (F := F)) 𝒱₀ c none) E (cc1__tc_body i M1 h1 M2 h2 M3 h3 M4 h4 M5 h5) Q := by
  unfold owns
  iintro ⟨⟨%f1, %hf1, H1⟩, ⟨%f2, %hf2, H2⟩, ⟨%f3, %hf3, H3⟩, ⟨%f4, %hf4, H4⟩, ⟨%d5, %f5, -, H5⟩, Hk⟩
  rw [cc1__tc_body_eq_skeleton]
  unfold cc1__tc_body_skel
  rw [k1_part1_eq_skeleton]
  unfold k1_part1_skel
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  have hz : (![0, 0] : Fin 2 → ℕ) = fun _ => 0 := funext fun a => by fin_cases a <;> rfl
  rw [View.read_writes_full]
  unfold tc_run.sl.v10
  simp only [View.readAt_eq_ld, hf1, hf2, hf3, hf4]
  rw [View.ld_unit_zero hz, View.ld_unit_zero hz]
  rfl

end Cert.Proof.Sc

end
end
-- ==== Proof.TcRegion.lean ====
/- The TensorCore kernel's region: its proof data at any contents of the buffers, its body's obligation at every grid point, and
   the region as a step from those buffers to the same with the output's array at what the write-backs leave. -/
module

public import proofs.«01_k».proof.Proof.TcBody
public import Idealize.ShloMosaic.Lib.Pipeline.Regions
public import Idealize.ShloMosaic.Lib.Pipeline.FrameTail
public import Idealize.ShloMosaic.Lib.Pipeline.RegionArraysS

@[expose] public section

noncomputable section

namespace Cert.Proof.Sc

open Cert.KernelIdeal Cert.KernelIdeal.Gen
open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The region's proof data: inputs stay, the output's buffer ends at the body's block, nothing is owed, and every wait on record
    lies at or below the level the SparseCore call leaves. -/
def dat (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => tcBlock (iblk V c 0 t) (iblk V c 1 t) (firstL (iblk V c 2 t)) (firstL (iblk V c 3 t))
  Φ _ := Pipeline.scopedRest (Ix := HIx 1) (Name := ℕ) (U := UU) (Lvl := ℕ) spec1 c
  q _ := fullShare
  owed _ := 0
  recorded _ := {p | (K (F := F)).lev ((c : Thread nD τ), p.1) p.2 ≤ 8}

/-- The data of the one pipeline. -/
def dats (_ : Fin 1) (c : Dev nD) : Dat τ (Elt F) (HIx 1) ℕ UU ℕ cfg1 c := dat V c

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl

theorem before_1 (c : Dev nD) (t : Fin cfg1.N) (d) : (dat V c).before 1 t d = iblk V c 1 t :=
  ((dat V c).before_in_eq_fetched 1 rfl (fun _ => rfl) (fun _ _ _ => rfl) (fun _ => rfl) t d).trans rfl

theorem before_2 (c : Dev nD) (t : Fin cfg1.N) (d) : (dat V c).before 2 t d = iblk V c 2 t :=
  ((dat V c).before_in_eq_fetched 2 rfl (fun _ => rfl) (fun _ _ _ => rfl) (fun _ => rfl) t d).trans rfl

theorem before_3 (c : Dev nD) (t : Fin cfg1.N) (d) : (dat V c).before 3 t d = iblk V c 3 t :=
  ((dat V c).before_in_eq_fetched 3 rfl (fun _ => rfl) (fun _ _ _ => rfl) (fun _ => rfl) t d).trans rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t
    = tcBlock (iblk V c 0 t) (iblk V c 1 t) (firstL (iblk V c 2 t)) (firstL (iblk V c 3 t)) := by dsimp only [dat]

/-- The body's obligation: the staging buffers taken apart, the body's run, and its post put together. -/
theorem body_obligation (c : Dev nD) : BodyObligation (dat V c) (defs₀ (F := F)) 𝒱₀ (none : HIx 1) Set.univ := fun t => by
  rw [bigSep_W1, bigSep_W1]
  sl_whnfR [defs₀, Defs.onTc]
  simp only [before_0, before_1, before_2, before_3]
  rw [show (dat V c).Φ t.succ = (dat V c).Φ t.castSucc from rfl,
    show (dat V c).owesAt none t.succ = (dat V c).owesAt none t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (tc_run c _ _ _ _ _ _ _ _ _ _ _ (iblk V c 0 t) (iblk V c 1 t) (iblk V c 2 t) (iblk V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- No prefetched table: the one admissible choice. -/
def adm : (p : Fin 1) → (pcfgs (F := F) p).Adm := fun p => (cfgs p).toPCfg_adm

/-- The buffers after the region. -/
def Vp (c : Dev nD) : Valuation τ sig (Elt F) := Pipeline.afterRegion (dat V c) (V c)

/-- Waits on record at or below level 8, and nothing owed. -/
def idle8 (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The region, over the unscoped buffers and the bounded record of waits. -/
def reg : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (fun b => V c b) ∗ idle8 c)
  post c := iprop(unscopedBufs c (fun b => Vp V c b) ∗ idle8 c)
  X _ := iprop(emp)
  Y _ := iprop(emp)
  Z c := Pipeline.unscopedRest (Ix := HIx 1) (Name := ℕ) (U := UU) (Lvl := ℕ) spec1 c (fun b => V c b)
  hentry c := by
    rw [Pipeline.ownSems0_none]
    have hsplit := Pipeline.arrays_of_unscopedBufs (p := 0) (pcfgs (F := F)) adm (dats V) launch1.win launch1.arr_whole c
      ((dats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle8 Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V 0 c).Φ 0 = Pipeline.scopedRest (Ix := HIx 1) (Name := ℕ) (U := UU) (Lvl := ℕ) spec1 c from rfl]
    iintro ⟨-, -, Hr⟩; iexact Hr
  hout c := by
    rw [Pipeline.ownSems0_none, show (dats V 0 c).Φ (Fin.last _) = Pipeline.scopedRest (Ix := HIx 1) (Name := ℕ) (U := UU) (Lvl := ℕ) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (dats V) ((dats V 0 c).share_full fun _ => rfl) (fun b => V c b) (fun b => Vp V c b) ((dats V 0 c).arrAt · cfg1.N)
      (fun w => (Pipeline.afterRegion_arr (dat V c) (V c) launch1.win.arr_inj w).symm)
      (fun b hb => Pipeline.afterRegion_of_not_arr (dat V c) (V c) fun w e => hb (Finset.mem_image.mpr ⟨w, Finset.mem_univ _, e.symm⟩))
    iintro ⟨Ha, HO, -, Hrest⟩
    imodintro
    isplitl [Ha Hrest]
    · iapply hjoin; isplitl [Ha] <;> iassumption
    unfold idle8 Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Sc

end
end
-- ==== Proof.ScMain.lean ====
/- @main on the TensorCore: the host operations before the calls, the SparseCore call, the TensorCore kernel's region, and the host
   operations after, each taking the unscoped buffers from one set of contents to the next. -/
module

public import proofs.«01_k».proof.Proof.ScSplit
public import proofs.«01_k».proof.Proof.TcRegion

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.TcCoe
open Idealize.ShloMosaic.Rounds
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev op1 : HloOp τ sig (Elt F) := StableHlo.unary main_arg0 main_v0 ((transpose S64x131072 [1, 0] · transposes_S131072x64_S64x131072_1_0) : (⟨S131072x64, .f32⟩ : BufTy).Contents (Elt F) → (⟨S64x131072, .f32⟩ : BufTy).Contents (Elt F))
abbrev op2 : HloOp τ sig (Elt F) := StableHlo.reshape main_arg1 main_v1 (rfl : (.f32 : EltTy) = .f32) shapeCasts_S131072_S1x131072
abbrev op3 : HloOp τ sig (Elt F) := StableHlo.reshape main_arg2 main_v2 (rfl : (.f32 : EltTy) = .f32) shapeCasts_S64_S1x64
abbrev op4 : HloOp τ sig (Elt F) := StableHlo.reshape main_arg3 main_v3 (rfl : (.f32 : EltTy) = .f32) shapeCasts_S64_S1x64
abbrev op5 : HloOp τ sig (Elt F) := StableHlo.nullary main_c (constantI S_ 32 0#32)
abbrev op6 : HloOp τ sig (Elt F) := StableHlo.nullary main_c_0 (constantI S_ 32 0#32)
abbrev op7 : HloOp τ sig (Elt F) := StableHlo.binaryIndexed main_v5 main_v4 ![main_c, main_c_0] ⟨S_, .i32⟩ main_v6 ((fun x u i => Host.dynamicUpdateSlice x u (fun k => (i k (Shape.Idx.first h_S_)).toInt) updateFits_S64x131072_S64x32768) : (⟨S64x131072, .f32⟩ : BufTy).Contents (Elt F) → (⟨S64x32768, .f32⟩ : BufTy).Contents (Elt F) → (Fin 2 → (⟨S_, .i32⟩ : BufTy).Contents (Elt F)) → (⟨S64x131072, .f32⟩ : BufTy).Contents (Elt F))
abbrev op8 : HloOp τ sig (Elt F) := StableHlo.unary main_v6 main_v7 ((transpose S131072x64 [1, 0] · transposes_S64x131072_S131072x64_1_0) : (⟨S64x131072, .f32⟩ : BufTy).Contents (Elt F) → (⟨S131072x64, .f32⟩ : BufTy).Contents (Elt F))

/-! ## The buffers' contents along @main -/

/-- At the launch, -/
def V0 (d : Dev nD) : Valuation τ sig (Elt F) := fun b => m (d, b)
/-- after the first host operations, -/
def V1 (d : Dev nD) : Valuation τ sig (Elt F) := op4.result (op3.result (op2.result (op1.result (V0 m d))))
/-- after the SparseCore call, -/
def V2 (d : Dev nD) : Valuation τ sig (Elt F) := Function.update (V1 m d) (Proc.devRef .tc main_v4) (scRes m d)
/-- after the TensorCore kernel, -/
def V3 (d : Dev nD) : Valuation τ sig (Elt F) := Vp (V2 m) d
/-- and at the end. -/
def V4 (d : Dev nD) : Valuation τ sig (Elt F) := op8.result (op7.result (op6.result (op5.result (V3 m d))))

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

theorem devRef_mem_uc (b : Ref sig .tc) (h : b.isScoped = false) : (Proc.devRef .tc b : DevRef τ sig) ∈ ucRefs :=
  Finset.mem_filter.mpr ⟨StableHlo.devRef_mem_tcRefs b, by simpa using h⟩

/-! ## The call's operands among the buffers -/

/-- The call's operands. -/
def five : Finset (DevRef τ sig) :=
  ({main_v0, main_arg1, main_arg2, main_arg3, main_v4} : Finset (Ref sig .tc)).map ⟨Proc.devRef (.tc : Proc τ), Proc.devRef_injective _⟩

theorem five_sub : five ⊆ ucRefs := by
  intro b hb
  obtain ⟨r, hr, rfl⟩ := Finset.mem_map.mp hb
  refine devRef_mem_uc r ?_
  revert hr
  revert r
  decide

omit [FloatOps F] in
theorem held_five (d : Dev nD) (W : Valuation τ sig (Elt F)) :
    (held (d : Thread nD τ) five W : sProp 𝕄)
      = iprop((xLoc d ↦{fullShare} W (Proc.devRef .tc main_v0)) ∗ (bLoc d ↦{fullShare} W (Proc.devRef .tc main_arg1))
        ∗ (lLoc d ↦{fullShare} W (Proc.devRef .tc main_arg2)) ∗ (uLoc d ↦{fullShare} W (Proc.devRef .tc main_arg3))
        ∗ (oLoc d ↦{fullShare} W (Proc.devRef .tc main_v4))) := by
  unfold StableHlo.held five
  rw [bigSep_map, SparseCore.bigSep_insert' (by decide), SparseCore.bigSep_insert' (by decide), SparseCore.bigSep_insert' (by decide),
    SparseCore.bigSep_insert' (by decide), bigSep_singleton]
  rfl

theorem V1_v0 (d : Dev nD) : V1 m d (Proc.devRef .tc main_v0) = xT m d := by
  unfold V1
  rw [StableHlo.reshape_result_ne _ _ _ _ _ _ _ (by decide), StableHlo.reshape_result_ne _ _ _ _ _ _ _ (by decide),
    StableHlo.reshape_result_ne _ _ _ _ _ _ _ (by decide), StableHlo.unary_result]
  rfl

theorem V1_keep (d : Dev nD) (r : Ref sig .tc) (h0 : r ≠ main_v0) (h1 : r ≠ main_v1) (h2 : r ≠ main_v2) (h3 : r ≠ main_v3) :
    V1 m d (Proc.devRef .tc r) = m ((d : Thread nD τ).loc r) := by
  unfold V1
  rw [StableHlo.reshape_result_ne _ _ _ _ _ _ _ h3, StableHlo.reshape_result_ne _ _ _ _ _ _ _ h2,
    StableHlo.reshape_result_ne _ _ _ _ _ _ _ h1, StableHlo.unary_result_ne _ _ _ _ _ _ h0]
  rfl

theorem held_V1 (d : Dev nD) : (held (d : Thread nD τ) five (V1 m d) : sProp 𝕄) = whole5 m d (m (oLoc d)) := by
  rw [held_five, V1_v0, V1_keep m d main_arg1 (by decide) (by decide) (by decide) (by decide), V1_keep m d main_arg2 (by decide) (by decide) (by decide) (by decide),
    V1_keep m d main_arg3 (by decide) (by decide) (by decide) (by decide), V1_keep m d main_v4 (by decide) (by decide) (by decide) (by decide)]
  rfl

theorem V2_v4 (d : Dev nD) : V2 m d (Proc.devRef .tc main_v4) = scRes m d := by
  unfold V2; exact Function.update_self _ _ _
theorem V2_keep (d : Dev nD) (b : DevRef τ sig) (h : b ≠ Proc.devRef .tc main_v4) : V2 m d b = V1 m d b := by
  unfold V2; exact Function.update_of_ne h _ _

theorem held_V2 (d : Dev nD) : (held (d : Thread nD τ) five (V2 m d) : sProp 𝕄) = whole5 m d (scRes m d) := by
  rw [held_five, V2_v4, V2_keep m d _ (StableHlo.devRef_ne_of_ne (by decide)), V2_keep m d _ (StableHlo.devRef_ne_of_ne (by decide)),
    V2_keep m d _ (StableHlo.devRef_ne_of_ne (by decide)), V2_keep m d _ (StableHlo.devRef_ne_of_ne (by decide)), V1_v0,
    V1_keep m d main_arg1 (by decide) (by decide) (by decide) (by decide), V1_keep m d main_arg2 (by decide) (by decide) (by decide) (by decide),
    V1_keep m d main_arg3 (by decide) (by decide) (by decide) (by decide)]
  rfl

theorem held_rest (d : Dev nD) : (held (d : Thread nD τ) (ucRefs \ five) (V1 m d) : sProp 𝕄) = held (d : Thread nD τ) (ucRefs \ five) (V2 m d) :=
  StableHlo.held_congr _ fun b hb => (V2_keep m d b fun e => (Finset.mem_sdiff.mp hb).2 (Finset.mem_map.mpr ⟨main_v4, by decide, e.symm⟩)).symm

/-! ## The run of @main -/

/-- What a device's TensorCore is dealt of the pipeline's ghost state. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- What @main leaves: every unscoped buffer at its last contents. -/
def FIN (d : Dev nD) : sProp 𝕄 := held (d : Thread nD τ) ucRefs (V4 m d)

omit [FloatOps F] in
/-- After its one call the TensorCore owes no start. -/
theorem Otc_one (d : Dev nD) : (K (F := F)).Otc d 1 = 0 := by
  unfold SparseCore.Cfg.Otc
  exact Finset.sum_eq_zero fun q _ => if_neg (by have := q.isLt; omega)

omit [FloatOps F] in
/-- The handshake state after the call lends the region its record of waits. -/
theorem tcSt_one (d : Dev nD) : ((K (F := F)).tcSt EH d 1 : sProp 𝕄) ⊢ iprop(idle8 d ∗ (idle8 d -∗ (K (F := F)).tcSt EH d 1)) := by
  unfold SparseCore.Cfg.tcSt idle8
  rw [Otc_one]
  iintro ⟨HO, H⟩
  isplitl [HO]; · iexact HO
  iintro HO
  isplitl [HO]; · iexact HO
  iexact H

omit [FloatOps F] in
theorem tcCall : (Prog.lift (.customCall (SparseCore.inner (Pipeline.entry 0)) ()) : Prog (TpuEff nD τ sig (Elt F) (SparseCore.Sig (ΛP (F := F)) 1) .tc) PUnit)
    = SparseCore.liftProg (Prog.op (.customCall (Pipeline.entry 0) ()) fun a => .ret a) := rfl

/-- The TensorCore kernel's call as a step. -/
theorem region_step [∀ e, Nonempty (Elt F e)] (κ : GSem nD τ sig → ℕ) (d : Dev nD) (Q : PUnit → sProp 𝕄) :
    iprop((K (F := F)).ctx EH (P m) κ ∗ boundary (d : Thread nD τ) ∗ held (d : Thread nD τ) ucRefs (V2 m d) ∗ idle8 d ∗ G d
        ∗ (iprop(boundary (d : Thread nD τ) ∗ held (d : Thread nD τ) ucRefs (V3 m d) ∗ idle8 d) -∗ Q ⟨⟩))
      ⊢ wp frame (wpE ((K (F := F)).defs (D (F := F))) 𝒱 (SparseCore.T d) none) Set.univ
          (Prog.lift (.customCall (SparseCore.inner (Pipeline.entry 0)) ())) Q := by
  rw [tcCall]
  unfold G
  iintro ⟨#Hctx, Hb, Hh, Ho, ⟨Hg, Ht⟩, Hk⟩
  ihave Hlev := (SparseCore.Cfg.ctx_levAts κ) $$ Hctx
  iapply ((K (F := F)).wp_liftProg (D (F := F)) 𝒱 (SparseCore.T d) Set.univ none _ Q)
  iapply (Pipeline.RegionSeg.wp (pcfgs (F := F)) adm (dats (V2 m)) (none : HIx 1) cellOf_inj (EP (F := F)) defs₀ 𝒱₀ (K (F := F)).L (K (F := F)).lev
    (reg (V2 m)) d none (fun _ h => by cases h) _ Q)
  isplitl [Hk]
  · iintro ⟨Hb, Hpost⟩
    simp only [wp_ret]
    ihave Hpost := (show (reg (V2 m)).post d ⊢ iprop(unscopedBufs d (fun b => Vp (V2 m) d b) ∗ idle8 d) from Entails.of_eq rfl) $$ Hpost
    rw [unscopedBufs_held]
    icases Hpost with ⟨Hh, Ho⟩
    imodintro
    iapply Hk
    isplitl [Hb]; · iexact Hb
    isplitl [Hh]; · iexact Hh
    iexact Ho
  isplitl [Hb]; · iexact Hb
  isplitl [Hh Ho]
  · iapply (show iprop(unscopedBufs d (fun b => V2 m d b) ∗ idle8 d) ⊢ (reg (V2 m)).pre d from Entails.of_eq rfl)
    rw [unscopedBufs_held]
    isplitl [Hh]; · iexact Hh
    iexact Ho
  isplitl [Hlev]; · iexact Hlev
  isplitl [Hg]; · iexact Hg
  iexact Ht

end Cert.Proof.Sc

end
end
-- ==== Proof.ScRun.lean ====
/- The program's run: the launch's ghost state, @main's run put together, and what the last contents say of the arguments and the
   result. -/
module

public import proofs.«01_k».proof.Proof.ScMain

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.TcCoe
open Idealize.ShloMosaic.Rounds
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operations' buffers are unscoped -/

theorem pair_sub (x y : Ref sig .tc) (hx : x.isScoped = false) (hy : y.isScoped = false) :
    ({Proc.devRef .tc x, Proc.devRef .tc y} : Finset (DevRef τ sig)) ⊆ ucRefs :=
  Finset.insert_subset (devRef_mem_uc x hx) (Finset.singleton_subset_iff.mpr (devRef_mem_uc y hy))

theorem op1_sub : (op1 (F := F)).bufs ⊆ ucRefs := pair_sub main_arg0 main_v0 rfl rfl
theorem op2_sub : (op2 (F := F)).bufs ⊆ ucRefs := pair_sub main_arg1 main_v1 rfl rfl
theorem op3_sub : (op3 (F := F)).bufs ⊆ ucRefs := pair_sub main_arg2 main_v2 rfl rfl
theorem op4_sub : (op4 (F := F)).bufs ⊆ ucRefs := pair_sub main_arg3 main_v3 rfl rfl
theorem op5_sub : (op5 (F := F)).bufs ⊆ ucRefs := Finset.singleton_subset_iff.mpr (devRef_mem_uc main_c rfl)
theorem op6_sub : (op6 (F := F)).bufs ⊆ ucRefs := Finset.singleton_subset_iff.mpr (devRef_mem_uc main_c_0 rfl)
theorem op7_sub : (op7 (F := F)).bufs ⊆ ucRefs :=
  Finset.insert_subset (devRef_mem_uc main_v5 rfl) (Finset.insert_subset (devRef_mem_uc main_v4 rfl) (Finset.insert_subset (devRef_mem_uc main_v6 rfl)
    (Finset.image_subset_iff.mpr fun k _ => match k with | 0 => devRef_mem_uc main_c rfl | 1 => devRef_mem_uc main_c_0 rfl)))
theorem op8_sub : (op8 (F := F)).bufs ⊆ ucRefs := pair_sub main_v6 main_v7 rfl rfl

/-! ## @main -/

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) ucRefs (V0 m d) from unscopedBufs_held d (V0 m d)]
  simp only [main, wp_bind, wp_pure]
  iintro ⟨#Hctx, Hst, ⟨Hb, Hh, Hts, -⟩, HG⟩
  iapply (wp_hlo_within 𝒱 (SparseCore.T d) none Set.univ (op := op1) (S := ucRefs) op1_sub (V := V0 m d)) $$ [Hb Hh]
  · isplitl [Hb]; · iexact Hb
    iexact Hh
  iintro ⟨Hb, Hh⟩
  rw [wp_ret]; imodintro
  iapply (wp_hlo_within 𝒱 (SparseCore.T d) none Set.univ (op := op2) (S := ucRefs) op2_sub) $$ [Hb Hh]
  · isplitl [Hb]; · iexact Hb
    iexact Hh
  iintro ⟨Hb, Hh⟩
  rw [wp_ret]; imodintro
  iapply (wp_hlo_within 𝒱 (SparseCore.T d) none Set.univ (op := op3) (S := ucRefs) op3_sub) $$ [Hb Hh]
  · isplitl [Hb]; · iexact Hb
    iexact Hh
  iintro ⟨Hb, Hh⟩
  rw [wp_ret]; imodintro
  iapply (wp_hlo_within 𝒱 (SparseCore.T d) none Set.univ (op := op4) (S := ucRefs) op4_sub) $$ [Hb Hh]
  · isplitl [Hb]; · iexact Hb
    iexact Hh
  iintro ⟨Hb, Hh⟩
  rw [wp_ret]; imodintro
  ihave Hh := (Entails.of_eq ((show held (d : Thread nD τ) ucRefs (op4.result (op3.result (op2.result (op1.result (V0 m d))))) = held (d : Thread nD τ) ucRefs (V1 m d) from rfl).trans
    (StableHlo.held_sub_split (d : Thread nD τ) five_sub (V1 m d)))) $$ Hh
  rw [held_V1, held_rest]
  icases Hh with ⟨H5, Hrest⟩
  ihave H5 := (whole5_split m d (m (oLoc d))) $$ H5
  icases H5 with ⟨Hkept, Htiles⟩
  iapply ((K (F := F)).wp_run (D (F := F)) 𝒱 (EH := EH) (P := P m) κ d 0) $$ [Hst Htiles Hkept Hrest Hb Hts HG]
  isplitr; · iexact Hctx
  isplitl [Hst]; · iexact Hst
  isplitl [Htiles]
  · rw [st0_eq]; iexact Htiles
  iintro ⟨Hst, Hdn⟩
  ihave Hdn := (Entails.of_eq (dn0_eq m d)) $$ Hdn
  ihave H5 := (whole5_join m d (scRes m d)) $$ [Hkept Hdn]
  · isplitl [Hkept] <;> iassumption
  ihave Hh := (Entails.of_eq ((congrArg (fun A => iprop(A ∗ held (d : Thread nD τ) (ucRefs \ five) (V2 m d))) (held_V2 m d).symm).trans
    (StableHlo.held_sub_split (d : Thread nD τ) five_sub (V2 m d)).symm)) $$ [H5 Hrest]
  · isplitl [H5] <;> iassumption
  ihave Hst := (show (K (F := F)).tcSt EH d ((0 : Fin 1).val + 1) ⊢ iprop(idle8 d ∗ (idle8 d -∗ (K (F := F)).tcSt EH d 1)) from tcSt_one d) $$ Hst
  icases Hst with ⟨Hidle, Hst⟩
  iapply (region_step m κ d)
  isplitr; · iexact Hctx
  isplitl [Hb]; · iexact Hb
  isplitl [Hh]; · iexact Hh
  isplitl [Hidle]; · iexact Hidle
  isplitl [HG]; · iexact HG
  iintro ⟨Hb, Hh, Hidle⟩
  iapply (wp_hlo_within 𝒱 (SparseCore.T d) none Set.univ (op := op5) (S := ucRefs) op5_sub (V := V3 m d)) $$ [Hb Hh]
  · isplitl [Hb]; · iexact Hb
    iexact Hh
  iintro ⟨Hb, Hh⟩
  rw [wp_ret]; imodintro
  iapply (wp_hlo_within 𝒱 (SparseCore.T d) none Set.univ (op := op6) (S := ucRefs) op6_sub) $$ [Hb Hh]
  · isplitl [Hb]; · iexact Hb
    iexact Hh
  iintro ⟨Hb, Hh⟩
  rw [wp_ret]; imodintro
  iapply (wp_hlo_within 𝒱 (SparseCore.T d) none Set.univ (op := op7) (S := ucRefs) op7_sub) $$ [Hb Hh]
  · isplitl [Hb]; · iexact Hb
    iexact Hh
  iintro ⟨Hb, Hh⟩
  rw [wp_ret]; imodintro
  iapply (wp_hlo_within 𝒱 (SparseCore.T d) none Set.univ (op := op8) (S := ucRefs) op8_sub) $$ [Hb Hh]
  · isplitl [Hb]; · iexact Hb
    iexact Hh
  iintro ⟨Hb, Hh⟩
  rw [wp_ret]; imodintro
  imodintro
  isplitl [Hst Hidle]
  · iapply Hst; iexact Hidle
  isplitl [Hh]
  · unfold FIN V4; iexact Hh
  isplitl [Hb] <;> iassumption

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]
    · ihave Hg := (Entails.of_eq (show (bigSep Finset.univ fun c : Dev nD => bigSep Finset.univ fun p : Fin 1 => Pipeline.cellsGhost (Pipeline.pin (pcfgs (F := F)) adm) (EP (F := F)) p c)
        = bigSep Finset.univ fun c : Dev nD => Pipeline.cellsGhost (Pipeline.pin (pcfgs (F := F)) adm) (EP (F := F)) 0 c from
        bigSep_congr fun _ _ => bigSep_univ_of_subsingleton (0 : Fin 1))) $$ Hg
      iexact Hg
    · ihave Ht := (Entails.of_eq (show (bigSep Finset.univ fun c : Dev nD => bigSep Finset.univ fun p : Fin 1 => Pipeline.toksInit (Pipeline.pin (pcfgs (F := F)) adm) (EP (F := F)) p c)
        = bigSep Finset.univ fun c : Dev nD => Pipeline.toksInit (Pipeline.pin (pcfgs (F := F)) adm) (EP (F := F)) 0 c from
        bigSep_congr fun _ _ => bigSep_univ_of_subsingleton (0 : Fin 1))) $$ Ht
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The last contents -/

/-- An argument keeps its launch contents. -/
theorem V4_keep (d : Dev nD) (r : Ref sig .tc) (h0 : r ≠ main_v0) (h1 : r ≠ main_v1) (h2 : r ≠ main_v2) (h3 : r ≠ main_v3) (h4 : r ≠ main_v4)
    (h5 : r ≠ main_v5) (hc : r ≠ main_c) (hc0 : r ≠ main_c_0) (h6 : r ≠ main_v6) (h7 : r ≠ main_v7) :
    V4 m d (Proc.devRef .tc r) = m ((d : Thread nD τ).loc r) := by
  unfold V4
  rw [StableHlo.unary_result_ne _ _ _ _ _ _ h7, StableHlo.binaryIndexed_result_ne _ _ _ _ _ _ _ _ _ _ _ _ h6, StableHlo.nullary_result_ne _ _ _ _ hc0,
    StableHlo.nullary_result_ne _ _ _ _ hc]
  unfold V3 Vp
  rw [Pipeline.afterRegion_keeps (dat (V2 m) d) (V2 m d) launch1.win.arr_inj (fun _ => rfl) r (fun w hw => by
      fin_cases w
      · rfl
      · rfl
      · rfl
      · rfl
      · exact absurd hw.symm h5),
    V2_keep m d _ (StableHlo.devRef_ne_of_ne h4), V1_keep m d r h0 h1 h2 h3]

/-- The arguments and the result at the end. -/
def fq (d : Dev nD) (s' : Phys nD τ sig (Elt F)) : Prop :=
  s'.mem.mem ((d : Thread nD τ).loc main_v7) = V4 m d (Proc.devRef .tc main_v7)
    ∧ s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)

/-- Those five buffers. -/
def ends : Finset (DevRef τ sig) :=
  ({main_v7, main_arg0, main_arg1, main_arg2, main_arg3} : Finset (Ref sig .tc)).map ⟨Proc.devRef (.tc : Proc τ), Proc.devRef_injective _⟩

theorem ends_sub : ends ⊆ ucRefs := by
  intro b hb
  obtain ⟨r, hr, rfl⟩ := Finset.mem_map.mp hb
  refine devRef_mem_uc r ?_
  revert hr
  revert r
  decide

theorem hfin (d : Dev nD) (s' : Phys nD τ sig (Elt F)) : iprop(FIN m d ∗ SI s') ⊢ (⌜fq m d s'⌝ : sProp 𝕄) := by
  unfold FIN
  rw [StableHlo.held_sub_split _ ends_sub]
  rw [show (held (d : Thread nD τ) ends (V4 m d) : sProp 𝕄)
      = iprop((((d : Thread nD τ).loc main_v7) ↦{fullShare} V4 m d (Proc.devRef .tc main_v7)) ∗ (((d : Thread nD τ).loc main_arg0) ↦{fullShare} V4 m d (Proc.devRef .tc main_arg0))
        ∗ (((d : Thread nD τ).loc main_arg1) ↦{fullShare} V4 m d (Proc.devRef .tc main_arg1)) ∗ (((d : Thread nD τ).loc main_arg2) ↦{fullShare} V4 m d (Proc.devRef .tc main_arg2))
        ∗ (((d : Thread nD τ).loc main_arg3) ↦{fullShare} V4 m d (Proc.devRef .tc main_arg3))) from by
    unfold StableHlo.held ends
    rw [bigSep_map, SparseCore.bigSep_insert' (by decide), SparseCore.bigSep_insert' (by decide), SparseCore.bigSep_insert' (by decide),
      SparseCore.bigSep_insert' (by decide), bigSep_singleton]
    rfl]
  have k (r : Ref sig .tc) := V4_keep m d r
  rw [k main_arg0 (by decide) (by decide) (by decide) (by decide) (by decide) (by decide) (by decide) (by decide) (by decide) (by decide),
    k main_arg1 (by decide) (by decide) (by decide) (by decide) (by decide) (by decide) (by decide) (by decide) (by decide) (by decide),
    k main_arg2 (by decide) (by decide) (by decide) (by decide) (by decide) (by decide) (by decide) (by decide) (by decide) (by decide),
    k main_arg3 (by decide) (by decide) (by decide) (by decide) (by decide) (by decide) (by decide) (by decide) (by decide) (by decide)]
  iintro ⟨⟨⟨H7, H0, H1, H2, H3⟩, -⟩, HSI⟩
  icombine HSI H7 gives %h7
  icombine HSI H0 gives %h0
  icombine HSI H1 gives %h1
  icombine HSI H2 gives %h2
  icombine HSI H3 gives %h3
  ipureintro
  exact ⟨Buf.eq_of_forall_mem_univ h7, Buf.eq_of_forall_mem_univ h0, Buf.eq_of_forall_mem_univ h1, Buf.eq_of_forall_mem_univ h2, Buf.eq_of_forall_mem_univ h3⟩

/-! ## The run -/

def QC : PUnit × MemSt nD τ sig (Elt F) → Prop := fun r =>
  (∀ d : Dev nD, r.2.mem ((d : Thread nD τ).loc main_v7) = V4 m d (Proc.devRef .tc main_v7)
    ∧ r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Sc

end
end
-- ==== Proof.RefRun.lean ====
/- The reference's run. Its operations stand in four stretches, each read back as a few named values of the
   values before it, so that no value is ever written out in full. -/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

/-- The contents of a whole buffer of shape `S`. -/
abbrev Arr (F : FTy → Type) (S : Shape) (t : EltTy) := (⟨S, t⟩ : BufTy).Contents (Elt F)

variable {F : FTy → Type} [FloatOps F]

/-! ## The values -/

/-- One entry per column, repeated down every row. -/
def cols {t : EltTy} (g : Arr F S64 t) : Arr F S131072x64 t :=
  broadcastInDim S131072x64 ![0, 1] bcast_S1x64_S131072x64_0_1 (broadcastInDim S1x64 ![1] bcast_S64_S1x64_1 g)

/-- One entry per row, repeated across every column. -/
def rows {t : EltTy} (g : Arr F S131072 t) : Arr F S131072x64 t :=
  broadcastInDim S131072x64 ![0, 1] bcast_S131072x1_S131072x64_0_1 (broadcastInDim S131072x1 ![0] bcast_S131072_S131072x1_0 g)

/-- One number, given to every row. -/
def every {t : EltTy} (g : Arr F S_ t) : Arr F S131072 t := broadcastInDim S131072 ![] bcast_S_S131072 g

/-- The zero array. -/
def zeros : Arr F S131072x64 .f32 := broadcastInDim S131072x64 ![] bcast_S_S131072x64 (constant S_ .f32 0x00000000#32)

/-- The columns whose two bounds agree. -/
def fixed (l u : Arr F S64 .f32) : Arr F S64 .i1 := cmpf .oeq u l

/-- The sum of each row. -/
def rowSum (x : Arr F S131072x64 .f32) : Arr F S131072 .f32 :=
  Host.reduceAdd x (constant S_ .f32 0x00000000#32) reducesTo_S131072x64_S131072_d1 h_S_

/-- The sum of one bound over the columns. -/
def total (l : Arr F S64 .f32) : Arr F S_ .f32 := Host.reduceAdd l (constant S_ .f32 0x00000000#32) reducesTo_S64_S_d0 h_S_

/-- What is left of each row's target once its fixed columns are paid for. -/
def budget (g : Arr F S64 .i1) (x : Arr F S131072x64 .f32) (b : Arr F S131072 .f32) : Arr F S131072 .f32 :=
  subf b (rowSum (select (cols g) x zeros))

/-- A bound, zero where the column is fixed. -/
def free (g : Arr F S64 .i1) (l : Arr F S64 .f32) : Arr F S64 .f32 :=
  select g (broadcastInDim S64 ![] bcast_S_S64 (constant S_ .f32 0x00000000#32)) l

/-- The rows at or below the least sum. -/
def under (v4 : Arr F S131072 .f32) (v5 : Arr F S64 .f32) : Arr F S131072 .i1 := cmpf .ole v4 (every (total v5))

/-- The rows at or above the greatest sum. -/
def over (v4 : Arr F S131072 .f32) (v6 : Arr F S64 .f32) : Arr F S131072 .i1 := cmpf .oge v4 (every (total v6))

/-- The array with the rows outside the two sums set to a bound. -/
def clamped (v12 v17 : Arr F S131072 .i1) (v0 : Arr F S64 .i1) (v5 v6 : Arr F S64 .f32) (x : Arr F S131072x64 .f32) :
    Arr F S131072x64 .f32 :=
  select (rows v17) (cols v6) (select (rows v12) (cols v5) (select (cols v0) zeros x))

/-- The rows strictly between the two sums. -/
def inside (v12 v17 : Arr F S131072 .i1) : Arr F S131072 .i1 := andi (noti v12) (noti v17)

/-- How far towards a bound each row moves. -/
def ratio (v4 v24 : Arr F S131072 .f32) (tot : Arr F S_ .f32) : Arr F S131072x1 .f32 :=
  broadcastInDim S131072x1 ![0] bcast_S131072_S131072x1_0 (Host.divf (subf v4 v24) (subf (every tot) v24))

/-- The chosen rows moved towards a bound. -/
def moved (sel : Arr F S131072 .i1) (v4 v24 : Arr F S131072 .f32) (tot : Arr F S_ .f32) (v : Arr F S64 .f32) (x : Arr F S131072x64 .f32) :
    Arr F S131072x64 .f32 :=
  select (rows sel)
    (addf (mulf (broadcastInDim S131072x64 ![0, 1] bcast_S131072x1_S131072x64_0_1 (ratio v4 v24 tot)) (cols v))
      (mulf (broadcastInDim S131072x64 ![0, 1] bcast_S131072x1_S131072x64_0_1
        (subf (broadcastInDim S131072x1 ![] bcast_S_S131072x1 (constant S_ .f32 0x3F800000#32)) (ratio v4 v24 tot))) x)) x

/-! ## The operations -/

/-- Which columns are fixed, what is left of the target, and the bounds of the free columns. -/
abbrev opsA : List (HloOp τ sig (Elt F)) :=
  [ binary main_arg3 main_arg2 main_v0 (cmpf .oeq : Arr F S64 .f32 → Arr F S64 .f32 → Arr F S64 .i1),
    unary main_v0 main_v1 (broadcastInDim S1x64 ![1] bcast_S64_S1x64_1 : Arr F S64 .i1 → Arr F S1x64 .i1),
    nullary main_cst (constant S_ .f32 0x00000000#32),
    unary main_cst main_call0_v0 (id : Arr F S_ .f32 → Arr F S_ .f32),
    unary main_v1 main_call0_v1 (broadcastInDim S131072x64 ![0, 1] bcast_S1x64_S131072x64_0_1 : Arr F S1x64 .i1 → Arr F S131072x64 .i1),
    unary main_call0_v0 main_call0_v2 (broadcastInDim S131072x64 ![] bcast_S_S131072x64 : Arr F S_ .f32 → Arr F S131072x64 .f32),
    ternary main_call0_v1 main_arg0 main_call0_v2 main_v2 (select : Arr F S131072x64 .i1 → Arr F S131072x64 .f32 → Arr F S131072x64 .f32 → Arr F S131072x64 .f32),
    nullary main_cst_0 (constant S_ .f32 0x00000000#32),
    binary main_v2 main_cst_0 main_v3 ((fun x v => Host.reduceAdd x v reducesTo_S131072x64_S131072_d1 h_S_) : Arr F S131072x64 .f32 → Arr F S_ .f32 → Arr F S131072 .f32),
    binary main_arg1 main_v3 main_v4 (subf : Arr F S131072 .f32 → Arr F S131072 .f32 → Arr F S131072 .f32),
    nullary main_cst_1 (constant S_ .f32 0x00000000#32),
    unary main_cst_1 main_call1_v0 (id : Arr F S_ .f32 → Arr F S_ .f32),
    unary main_call1_v0 main_call1_v1 (broadcastInDim S64 ![] bcast_S_S64 : Arr F S_ .f32 → Arr F S64 .f32),
    ternary main_v0 main_call1_v1 main_arg2 main_v5 (select : Arr F S64 .i1 → Arr F S64 .f32 → Arr F S64 .f32 → Arr F S64 .f32),
    nullary main_cst_2 (constant S_ .f32 0x00000000#32),
    unary main_cst_2 main_call2_v0 (id : Arr F S_ .f32 → Arr F S_ .f32),
    unary main_call2_v0 main_call2_v1 (broadcastInDim S64 ![] bcast_S_S64 : Arr F S_ .f32 → Arr F S64 .f32),
    ternary main_v0 main_call2_v1 main_arg3 main_v6 (select : Arr F S64 .i1 → Arr F S64 .f32 → Arr F S64 .f32 → Arr F S64 .f32) ]

/-- The sums of the bounds, the rows outside them, and the array with those rows clamped. -/
abbrev opsB : List (HloOp τ sig (Elt F)) :=
  [ unary main_v0 main_v7 (broadcastInDim S1x64 ![1] bcast_S64_S1x64_1 : Arr F S64 .i1 → Arr F S1x64 .i1),
    nullary main_cst_3 (constant S_ .f32 0x00000000#32),
    unary main_cst_3 main_call3_v0 (id : Arr F S_ .f32 → Arr F S_ .f32),
    unary main_v7 main_call3_v1 (broadcastInDim S131072x64 ![0, 1] bcast_S1x64_S131072x64_0_1 : Arr F S1x64 .i1 → Arr F S131072x64 .i1),
    unary main_call3_v0 main_call3_v2 (broadcastInDim S131072x64 ![] bcast_S_S131072x64 : Arr F S_ .f32 → Arr F S131072x64 .f32),
    ternary main_call3_v1 main_call3_v2 main_arg0 main_v8 (select : Arr F S131072x64 .i1 → Arr F S131072x64 .f32 → Arr F S131072x64 .f32 → Arr F S131072x64 .f32),
    nullary main_cst_4 (constant S_ .f32 0x00000000#32),
    binary main_v5 main_cst_4 main_v9 ((fun x v => Host.reduceAdd x v reducesTo_S64_S_d0 h_S_) : Arr F S64 .f32 → Arr F S_ .f32 → Arr F S_ .f32),
    nullary main_cst_5 (constant S_ .f32 0x00000000#32),
    binary main_v6 main_cst_5 main_v10 ((fun x v => Host.reduceAdd x v reducesTo_S64_S_d0 h_S_) : Arr F S64 .f32 → Arr F S_ .f32 → Arr F S_ .f32),
    unary main_v9 main_v11 (broadcastInDim S131072 ![] bcast_S_S131072 : Arr F S_ .f32 → Arr F S131072 .f32),
    binary main_v4 main_v11 main_v12 (cmpf .ole : Arr F S131072 .f32 → Arr F S131072 .f32 → Arr F S131072 .i1),
    unary main_v12 main_v13 (broadcastInDim S131072x1 ![0] bcast_S131072_S131072x1_0 : Arr F S131072 .i1 → Arr F S131072x1 .i1),
    unary main_v5 main_v14 (broadcastInDim S1x64 ![1] bcast_S64_S1x64_1 : Arr F S64 .f32 → Arr F S1x64 .f32),
    unary main_v13 main_call4_v0 (broadcastInDim S131072x64 ![0, 1] bcast_S131072x1_S131072x64_0_1 : Arr F S131072x1 .i1 → Arr F S131072x64 .i1),
    unary main_v14 main_call4_v1 (broadcastInDim S131072x64 ![0, 1] bcast_S1x64_S131072x64_0_1 : Arr F S1x64 .f32 → Arr F S131072x64 .f32),
    ternary main_call4_v0 main_call4_v1 main_v8 main_v15 (select : Arr F S131072x64 .i1 → Arr F S131072x64 .f32 → Arr F S131072x64 .f32 → Arr F S131072x64 .f32),
    unary main_v10 main_v16 (broadcastInDim S131072 ![] bcast_S_S131072 : Arr F S_ .f32 → Arr F S131072 .f32),
    binary main_v4 main_v16 main_v17 (cmpf .oge : Arr F S131072 .f32 → Arr F S131072 .f32 → Arr F S131072 .i1),
    unary main_v17 main_v18 (broadcastInDim S131072x1 ![0] bcast_S131072_S131072x1_0 : Arr F S131072 .i1 → Arr F S131072x1 .i1),
    unary main_v6 main_v19 (broadcastInDim S1x64 ![1] bcast_S64_S1x64_1 : Arr F S64 .f32 → Arr F S1x64 .f32),
    unary main_v18 main_call5_v0 (broadcastInDim S131072x64 ![0, 1] bcast_S131072x1_S131072x64_0_1 : Arr F S131072x1 .i1 → Arr F S131072x64 .i1),
    unary main_v19 main_call5_v1 (broadcastInDim S131072x64 ![0, 1] bcast_S1x64_S131072x64_0_1 : Arr F S1x64 .f32 → Arr F S131072x64 .f32),
    ternary main_call5_v0 main_call5_v1 main_v15 main_v20 (select : Arr F S131072x64 .i1 → Arr F S131072x64 .f32 → Arr F S131072x64 .f32 → Arr F S131072x64 .f32) ]

/-- The rows between the sums, their own sums, and the step up. -/
abbrev opsC : List (HloOp τ sig (Elt F)) :=
  [ unary main_v12 main_v21 (noti : Arr F S131072 .i1 → Arr F S131072 .i1),
    unary main_v17 main_v22 (noti : Arr F S131072 .i1 → Arr F S131072 .i1),
    binary main_v21 main_v22 main_v23 (andi : Arr F S131072 .i1 → Arr F S131072 .i1 → Arr F S131072 .i1),
    nullary main_cst_6 (constant S_ .f32 0x00000000#32),
    binary main_v20 main_cst_6 main_v24 ((fun x v => Host.reduceAdd x v reducesTo_S131072x64_S131072_d1 h_S_) : Arr F S131072x64 .f32 → Arr F S_ .f32 → Arr F S131072 .f32),
    binary main_v4 main_v24 main_v25 (cmpf .ogt : Arr F S131072 .f32 → Arr F S131072 .f32 → Arr F S131072 .i1),
    binary main_v25 main_v23 main_v26 (andi : Arr F S131072 .i1 → Arr F S131072 .i1 → Arr F S131072 .i1),
    binary main_v4 main_v24 main_v27 (subf : Arr F S131072 .f32 → Arr F S131072 .f32 → Arr F S131072 .f32),
    unary main_v10 main_v28 (broadcastInDim S131072 ![] bcast_S_S131072 : Arr F S_ .f32 → Arr F S131072 .f32),
    binary main_v28 main_v24 main_v29 (subf : Arr F S131072 .f32 → Arr F S131072 .f32 → Arr F S131072 .f32),
    binary main_v27 main_v29 main_v30 (Host.divf : Arr F S131072 .f32 → Arr F S131072 .f32 → Arr F S131072 .f32),
    unary main_v30 main_v31 (broadcastInDim S131072x1 ![0] bcast_S131072_S131072x1_0 : Arr F S131072 .f32 → Arr F S131072x1 .f32),
    unary main_v26 main_v32 (broadcastInDim S131072x1 ![0] bcast_S131072_S131072x1_0 : Arr F S131072 .i1 → Arr F S131072x1 .i1),
    unary main_v6 main_v33 (broadcastInDim S1x64 ![1] bcast_S64_S1x64_1 : Arr F S64 .f32 → Arr F S1x64 .f32),
    unary main_v31 main_v34 (broadcastInDim S131072x64 ![0, 1] bcast_S131072x1_S131072x64_0_1 : Arr F S131072x1 .f32 → Arr F S131072x64 .f32),
    unary main_v33 main_v35 (broadcastInDim S131072x64 ![0, 1] bcast_S1x64_S131072x64_0_1 : Arr F S1x64 .f32 → Arr F S131072x64 .f32),
    binary main_v34 main_v35 main_v36 (mulf : Arr F S131072x64 .f32 → Arr F S131072x64 .f32 → Arr F S131072x64 .f32),
    nullary main_cst_7 (constant S_ .f32 0x3F800000#32),
    unary main_cst_7 main_v37 (broadcastInDim S131072x1 ![] bcast_S_S131072x1 : Arr F S_ .f32 → Arr F S131072x1 .f32),
    binary main_v37 main_v31 main_v38 (subf : Arr F S131072x1 .f32 → Arr F S131072x1 .f32 → Arr F S131072x1 .f32),
    unary main_v38 main_v39 (broadcastInDim S131072x64 ![0, 1] bcast_S131072x1_S131072x64_0_1 : Arr F S131072x1 .f32 → Arr F S131072x64 .f32),
    binary main_v39 main_v20 main_v40 (mulf : Arr F S131072x64 .f32 → Arr F S131072x64 .f32 → Arr F S131072x64 .f32),
    binary main_v36 main_v40 main_v41 (addf : Arr F S131072x64 .f32 → Arr F S131072x64 .f32 → Arr F S131072x64 .f32),
    unary main_v32 main_call6_v0 (broadcastInDim S131072x64 ![0, 1] bcast_S131072x1_S131072x64_0_1 : Arr F S131072x1 .i1 → Arr F S131072x64 .i1),
    ternary main_call6_v0 main_v41 main_v20 main_v42 (select : Arr F S131072x64 .i1 → Arr F S131072x64 .f32 → Arr F S131072x64 .f32 → Arr F S131072x64 .f32) ]

/-- The step down, and the fixed columns put back. -/
abbrev opsD : List (HloOp τ sig (Elt F)) :=
  [ binary main_v4 main_v24 main_v43 (cmpf .olt : Arr F S131072 .f32 → Arr F S131072 .f32 → Arr F S131072 .i1),
    binary main_v43 main_v23 main_v44 (andi : Arr F S131072 .i1 → Arr F S131072 .i1 → Arr F S131072 .i1),
    binary main_v4 main_v24 main_v45 (subf : Arr F S131072 .f32 → Arr F S131072 .f32 → Arr F S131072 .f32),
    unary main_v9 main_v46 (broadcastInDim S131072 ![] bcast_S_S131072 : Arr F S_ .f32 → Arr F S131072 .f32),
    binary main_v46 main_v24 main_v47 (subf : Arr F S131072 .f32 → Arr F S131072 .f32 → Arr F S131072 .f32),
    binary main_v45 main_v47 main_v48 (Host.divf : Arr F S131072 .f32 → Arr F S131072 .f32 → Arr F S131072 .f32),
    unary main_v48 main_v49 (broadcastInDim S131072x1 ![0] bcast_S131072_S131072x1_0 : Arr F S131072 .f32 → Arr F S131072x1 .f32),
    unary main_v44 main_v50 (broadcastInDim S131072x1 ![0] bcast_S131072_S131072x1_0 : Arr F S131072 .i1 → Arr F S131072x1 .i1),
    unary main_v5 main_v51 (broadcastInDim S1x64 ![1] bcast_S64_S1x64_1 : Arr F S64 .f32 → Arr F S1x64 .f32),
    unary main_v49 main_v52 (broadcastInDim S131072x64 ![0, 1] bcast_S131072x1_S131072x64_0_1 : Arr F S131072x1 .f32 → Arr F S131072x64 .f32),
    unary main_v51 main_v53 (broadcastInDim S131072x64 ![0, 1] bcast_S1x64_S131072x64_0_1 : Arr F S1x64 .f32 → Arr F S131072x64 .f32),
    binary main_v52 main_v53 main_v54 (mulf : Arr F S131072x64 .f32 → Arr F S131072x64 .f32 → Arr F S131072x64 .f32),
    nullary main_cst_8 (constant S_ .f32 0x3F800000#32),
    unary main_cst_8 main_v55 (broadcastInDim S131072x1 ![] bcast_S_S131072x1 : Arr F S_ .f32 → Arr F S131072x1 .f32),
    binary main_v55 main_v49 main_v56 (subf : Arr F S131072x1 .f32 → Arr F S131072x1 .f32 → Arr F S131072x1 .f32),
    unary main_v56 main_v57 (broadcastInDim S131072x64 ![0, 1] bcast_S131072x1_S131072x64_0_1 : Arr F S131072x1 .f32 → Arr F S131072x64 .f32),
    binary main_v57 main_v42 main_v58 (mulf : Arr F S131072x64 .f32 → Arr F S131072x64 .f32 → Arr F S131072x64 .f32),
    binary main_v54 main_v58 main_v59 (addf : Arr F S131072x64 .f32 → Arr F S131072x64 .f32 → Arr F S131072x64 .f32),
    unary main_v50 main_call7_v0 (broadcastInDim S131072x64 ![0, 1] bcast_S131072x1_S131072x64_0_1 : Arr F S131072x1 .i1 → Arr F S131072x64 .i1),
    ternary main_call7_v0 main_v59 main_v42 main_v60 (select : Arr F S131072x64 .i1 → Arr F S131072x64 .f32 → Arr F S131072x64 .f32 → Arr F S131072x64 .f32),
    unary main_v0 main_v61 (broadcastInDim S1x64 ![1] bcast_S64_S1x64_1 : Arr F S64 .i1 → Arr F S1x64 .i1),
    unary main_v61 main_call8_v0 (broadcastInDim S131072x64 ![0, 1] bcast_S1x64_S131072x64_0_1 : Arr F S1x64 .i1 → Arr F S131072x64 .i1),
    ternary main_call8_v0 main_arg0 main_v60 main_v62 (select : Arr F S131072x64 .i1 → Arr F S131072x64 .f32 → Arr F S131072x64 .f32 → Arr F S131072x64 .f32) ]

/-- The whole program's operations. -/
abbrev opsAll : List (HloOp τ sig (Elt F)) := opsA ++ (opsB ++ (opsC ++ opsD))

set_option maxRecDepth 8192 in
set_option maxHeartbeats 4000000 in
theorem main_seq (c : Dev nD) : main (F := F) c = seq opsAll := rfl

theorem no_scopedRefs : (Finset.univ.filter fun b : Ref sig .tc => b.isScoped) = ∅ := by decide

theorem no_scopedSems : (Finset.univ.filter fun sm : SemLoc sig => sm.isScoped .tc) = ∅ := by decide

theorem ops_bufs : (opsAll : List (HloOp τ sig (Elt F))).Forall fun op => op.bufs ⊆ tcRefs τ sig := by
  simp only [opsAll, opsA, opsB, opsC, opsD, List.forall_append, List.Forall, unary_bufs_sub, binary_bufs_sub, nullary_bufs_sub,
    ternary_bufs_sub, and_self]

theorem after_split (p q : List (HloOp τ sig (Elt F))) (V : Valuation τ sig (Elt F)) : after (p ++ q) V = after q (after p V) := by
  induction p generalizing V with
  | nil => rfl
  | cons o p ih => exact ih _

/-! ## What each stretch leaves -/

section Reads

variable (V : Valuation τ sig (Elt F))

set_option maxHeartbeats 4000000

/-- The first stretch: the fixed columns, what is left of the target, and the free columns' bounds. -/
theorem A_reads : after opsA V main_v0 = fixed (V main_arg2) (V main_arg3)
    ∧ after opsA V main_v4 = budget (fixed (V main_arg2) (V main_arg3)) (V main_arg0) (V main_arg1)
    ∧ after opsA V main_v5 = free (fixed (V main_arg2) (V main_arg3)) (V main_arg2)
    ∧ after opsA V main_v6 = free (fixed (V main_arg2) (V main_arg3)) (V main_arg3) := by
  refine ⟨?_, ?_, ?_, ?_⟩ <;> (after_results_simp; all_goals rfl)

/-- The second stretch: the bounds' sums, the rows outside them, and the clamped array. -/
theorem B_reads : after opsB V main_v9 = total (V main_v5)
    ∧ after opsB V main_v10 = total (V main_v6)
    ∧ after opsB V main_v12 = under (V main_v4) (V main_v5)
    ∧ after opsB V main_v17 = over (V main_v4) (V main_v6)
    ∧ after opsB V main_v20
        = clamped (under (V main_v4) (V main_v5)) (over (V main_v4) (V main_v6)) (V main_v0) (V main_v5) (V main_v6) (V main_arg0) := by
  refine ⟨?_, ?_, ?_, ?_, ?_⟩ <;> (after_results_simp; all_goals rfl)

/-- The third stretch: the rows between the sums, the clamped array's row sums, and the step up. -/
theorem C_reads : after opsC V main_v23 = inside (V main_v12) (V main_v17)
    ∧ after opsC V main_v24 = rowSum (V main_v20)
    ∧ after opsC V main_v42
        = moved (andi (cmpf .ogt (V main_v4 : Arr F S131072 .f32) (rowSum (V main_v20))) (inside (V main_v12) (V main_v17)))
            (V main_v4) (rowSum (V main_v20)) (V main_v10) (V main_v6) (V main_v20) := by
  refine ⟨?_, ?_, ?_⟩ <;> (after_results_simp; all_goals rfl)

/-- The last stretch: the step down, and the fixed columns put back. -/
theorem D_reads : after opsD V main_v62
    = select (cols (V main_v0)) (V main_arg0 : Arr F S131072x64 .f32)
        (moved (andi (cmpf .olt (V main_v4 : Arr F S131072 .f32) (V main_v24)) (V main_v23))
          (V main_v4) (V main_v24) (V main_v9) (V main_v5) (V main_v42)) := by
  after_results_simp
  all_goals rfl

/-- The arguments stay through a stretch. -/
theorem A_args : after opsA V main_arg0 = V main_arg0 ∧ after opsA V main_arg1 = V main_arg1
    ∧ after opsA V main_arg2 = V main_arg2 ∧ after opsA V main_arg3 = V main_arg3 := by
  refine ⟨?_, ?_, ?_, ?_⟩ <;> after_results_simp

/-- What the second stretch leaves alone. -/
theorem B_keeps : after opsB V main_arg0 = V main_arg0 ∧ after opsB V main_arg1 = V main_arg1
    ∧ after opsB V main_arg2 = V main_arg2 ∧ after opsB V main_arg3 = V main_arg3
    ∧ after opsB V main_v0 = V main_v0 ∧ after opsB V main_v4 = V main_v4
    ∧ after opsB V main_v5 = V main_v5 ∧ after opsB V main_v6 = V main_v6 := by
  refine ⟨?_, ?_, ?_, ?_, ?_, ?_, ?_, ?_⟩ <;> after_results_simp

/-- What the third stretch leaves alone. -/
theorem C_keeps : after opsC V main_arg0 = V main_arg0 ∧ after opsC V main_arg1 = V main_arg1
    ∧ after opsC V main_arg2 = V main_arg2 ∧ after opsC V main_arg3 = V main_arg3
    ∧ after opsC V main_v0 = V main_v0 ∧ after opsC V main_v4 = V main_v4
    ∧ after opsC V main_v5 = V main_v5 ∧ after opsC V main_v9 = V main_v9 := by
  refine ⟨?_, ?_, ?_, ?_, ?_, ?_, ?_, ?_⟩ <;> after_results_simp

/-- The arguments stay through the last stretch. -/
theorem D_args : after opsD V main_arg0 = V main_arg0 ∧ after opsD V main_arg1 = V main_arg1
    ∧ after opsD V main_arg2 = V main_arg2 ∧ after opsD V main_arg3 = V main_arg3 := by
  refine ⟨?_, ?_, ?_, ?_⟩ <;> after_results_simp

end Reads

/-! ## The run -/

/-- The reference's result, from its four arguments. -/
def result (x : Arr F S131072x64 .f32) (b : Arr F S131072 .f32) (l u : Arr F S64 .f32) : Arr F S131072x64 .f32 :=
  let g := fixed l u
  let bb := budget g x b
  let lo := free g l
  let hi := free g u
  let le := under bb lo
  let ge := over bb hi
  let y := clamped le ge g lo hi x
  let s := rowSum y
  let z := moved (andi (cmpf .ogt bb s) (inside le ge)) bb s (total hi) hi y
  select (cols g) x (moved (andi (cmpf .olt bb s) (inside le ge)) bb s (total lo) lo z)

theorem after_v62 (V : Valuation τ sig (Elt F)) :
    after opsAll V main_v62 = result (V main_arg0) (V main_arg1) (V main_arg2) (V main_arg3) := by
  obtain ⟨a0, a4, a5, a6⟩ := A_reads V
  obtain ⟨r0, r1, r2, r3⟩ := A_args V
  obtain ⟨b9, b10, b12, b17, b20⟩ := B_reads (after opsA V)
  obtain ⟨k0, k1, k2, k3, kv0, kv4, kv5, kv6⟩ := B_keeps (after opsA V)
  obtain ⟨c23, c24, c42⟩ := C_reads (after opsB (after opsA V))
  obtain ⟨q0, q1, q2, q3, qv0, qv4, qv5, qv9⟩ := C_keeps (after opsB (after opsA V))
  simp only [opsAll, after_split]
  rw [D_reads, c23, c24, c42, q0, qv0, qv4, qv5, qv9, b9, b10, b12, b17, b20, k0, kv0, kv4, kv5, kv6, a0, a4, a5, a6, r0]
  rfl

theorem after_args (V : Valuation τ sig (Elt F)) : after opsAll V main_arg0 = V main_arg0 ∧ after opsAll V main_arg1 = V main_arg1
    ∧ after opsAll V main_arg2 = V main_arg2 ∧ after opsAll V main_arg3 = V main_arg3 := by
  obtain ⟨r0, r1, r2, r3⟩ := A_args V
  obtain ⟨k0, k1, k2, k3, -⟩ := B_keeps (after opsA V)
  obtain ⟨q0, q1, q2, q3, -⟩ := C_keeps (after opsB (after opsA V))
  obtain ⟨p0, p1, p2, p3⟩ := D_args (after opsC (after opsB (after opsA V)))
  simp only [opsAll, after_split]
  exact ⟨p0.trans (q0.trans (k0.trans r0)), p1.trans (q1.trans (k1.trans r1)), p2.trans (q2.trans (k2.trans r2)),
    p3.trans (q3.trans (k3.trans r3))⟩

/-- Every fair run of the reference ends, with the result above and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v62).trans (after_v62 _), (h c main_arg0).trans (after_args _).1,
      (h c main_arg1).trans (after_args _).2.1, (h c main_arg2).trans (after_args _).2.2.1, (h c main_arg3).trans (after_args _).2.2.2⟩)
    (run_seq no_scopedRefs no_scopedSems defs main (fun _ => opsAll) main_seq (fun _ => ops_bufs) m ρ)

end Cert.Proof.Ref

end
end
-- ==== Proof.Frames.lean ====
/- The frame claims: the kernel as printed, the kernel over the extended reals, and the reference. -/
module

public import proofs.«01_k».proof.Proof.ScRun
public import proofs.«01_k».proof.Proof.Gen.Kernel
public import proofs.«01_k».proof.Proof.RefRun
public import proofs.«01_k».proof.Defs
public import Idealize.ShloMosaic.Lib.Quiescent

@[expose] public section

noncomputable section

namespace Cert.Proof

open Idealize.ShloMosaic Idealize.SL.Sem

/-- The kernel's run keeps its arguments and leaves every semaphore at zero, whatever the floats are. -/
theorem frame_any {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run _ _ _).mono (fun _ h => ⟨fun c => (h.1 c).2, h.2⟩) (Sc.run_main m g)

/-- The two programs' bodies are the same text: equal at every label of every processor. -/
theorem bodies_same {F : FTy → Type} [FloatOps F] :
    ∀ p ℓ a, Cert.Kernel.defs₀ (F := F) p ℓ a = Cert.KernelIdeal.defs₀ (F := F) p ℓ a
  | .tc, 0, _ => rfl
  | .tc, 1, (_, _) => rfl
  | .scScalar _, 0, _ => rfl
  | .scScalar _, 1, _ => rfl
  | .scVector _ _, 0, _ => rfl
  | .scVector _ _, 1, _ => rfl

theorem defs_same {F : FTy → Type} [FloatOps F] : Cert.Kernel.defs (F := F) = Cert.KernelIdeal.defs (F := F) := by
  have h : Cert.Kernel.defs₀ (F := F) = Cert.KernelIdeal.defs₀ (F := F) := by
    funext p ℓ a
    exact bodies_same p ℓ a
  unfold Cert.Kernel.defs Cert.KernelIdeal.defs
  exact congrArg (fun d => Cert.KernelIdeal.sc.defs (Pipeline.defs Cert.KernelIdeal.pcfgs d)) h

theorem frame_kernel [hKernel : Cert.Kernel.Facts] : Cert.quiescent_Kernel := by
  intro m g _
  have h := frame_any (F := Bits) m g
  rw [← defs_same] at h
  exact h

theorem frame_kernelIdeal [hKernelIdeal : Cert.KernelIdeal.Facts] : Cert.quiescent_KernelIdeal := fun m g _ => frame_any (F := Ideal) m g

theorem frame_reference [hReferenceIdeal : Cert.ReferenceIdeal.Facts] : Cert.quiescent_ReferenceIdeal := fun m g _ =>
  (θ_run _ _ _).mono (fun r h => ⟨fun c => (h c).2, sem_eq_zero_of_no_sems (by decide) r.2⟩) (Ref.run (F := Ideal) m g)

end Cert.Proof

end
end
-- ==== Proof.Spec.lean ====
/- One entry of a repaired row, over the extended reals, and the two forms in which the programs compute it. -/
module

public import Idealize.ShloMosaic.Lib.Pointwise

@[expose] public section

noncomputable section

namespace Cert.Proof

open Idealize.ShloMosaic

/-- The repaired entry, from the two bounds `L`, `U`, the row's sum `t`, its target `b` and the entry `x`. Equal bounds leave
    it; a target outside the bounds' sums sets it to that bound; otherwise it moves towards a bound by the missing share. -/
def repaired (L U t b x : EReal) : EReal :=
  if U = L then x
  else if U * 64 ≤ b then U
  else if b ≤ L * 64 then L
  else if t < b then Ideal.div (b - t) (U * 64 - t) * U + (1 - Ideal.div (b - t) (U * 64 - t)) * x
  else if b < t then Ideal.div (b - t) (L * 64 - t) * L + (1 - Ideal.div (b - t) (L * 64 - t)) * x
  else x

/-- The factor the kernel multiplies the entry by, -/
def factor (L U t b : EReal) : EReal :=
  if U = L then 1
  else if U * 64 ≤ b then 0
  else if b ≤ L * 64 then 0
  else if t < b then 1 - Ideal.div (b - t) (U * 64 - t)
  else if b < t then 1 - Ideal.div (b - t) (L * 64 - t)
  else 1

/-- and what it adds. -/
def summand (L U t b : EReal) : EReal :=
  if U = L then 0
  else if U * 64 ≤ b then U
  else if b ≤ L * 64 then L
  else if t < b then Ideal.div (b - t) (U * 64 - t) * U
  else if b < t then Ideal.div (b - t) (L * 64 - t) * L
  else 0

theorem factor_summand (L U t b x : EReal) : factor L U t b * x + summand L U t b = repaired L U t b x := by
  unfold factor summand repaired
  split_ifs <;> simp [add_comm]

theorem ofBits_64 : Ideal.ofBits .f32 0x42800000#32 = (64 : EReal) := by
  rw [show (64 : EReal) = ((64 : ℝ) : EReal) by norm_cast]
  simp [Ideal.ofBits, Ideal.ieee, -EReal.coe_mul]; norm_num

/-- A target strictly between the bounds' sums is finite, so its distance from the row's sum has the sign of their order. -/
theorem dist_pos {p q t b : EReal} (hp : ¬ b ≤ p) (hq : ¬ q ≤ b) : (0 < b - t ↔ t < b) ∧ (b - t < 0 ↔ b < t) := by
  have hb : b ≠ ⊥ := fun h => hp (h ▸ bot_le)
  have ht : b ≠ ⊤ := fun h => hq (h ▸ le_top)
  lift b to ℝ using ⟨ht, hb⟩
  induction t with
  | bot => simp [EReal.coe_sub_bot]
  | top => simp [EReal.sub_top]
  | coe t => norm_cast; exact ⟨sub_pos, sub_neg⟩

end Cert.Proof

end
end
-- ==== Proof.ScValue.lean ====
/- The SparseCore kernel's result over the extended reals, entry by entry. -/
module

public import proofs.«01_k».proof.Proof.ScBody
public import proofs.«01_k».proof.Proof.Spec

@[expose] public section

set_option maxRecDepth 16384

noncomputable section

namespace Cert.Proof.Sc

open Cert.KernelIdeal Cert.KernelIdeal.Gen Idealize.ShloMosaic

variable (lv uv s bv : FVec Ideal S16 .f32) (r : Fin 16)

theorem alphaV_at : alphaV (F := Ideal) lv uv s bv (ix1 r) = factor (lv (ix1 r)) (uv (ix1 r)) (s (ix1 r)) (bv (ix1 r)) := by
  pointwise [alphaV, oneV, zeroV, lessV, greaterV, freeV, posV, negV, ratioV, loV, ofBits_64]
  unfold factor
  by_cases h0 : lv (ix1 r) = uv (ix1 r)
  · simp [h0]
  by_cases h1 : bv (ix1 r) ≤ lv (ix1 r) * 64
  · by_cases h2 : uv (ix1 r) * 64 ≤ bv (ix1 r) <;> simp [h0, h1, h2, Ne.symm h0, Scalar.select, IntOp.ori]
  by_cases h2 : uv (ix1 r) * 64 ≤ bv (ix1 r)
  · simp [h0, h1, h2, Ne.symm h0, Scalar.select, IntOp.ori]
  obtain ⟨hp, hn⟩ := dist_pos (t := s (ix1 r)) h1 h2
  by_cases h3 : s (ix1 r) < bv (ix1 r) <;> by_cases h4 : bv (ix1 r) < s (ix1 r) <;>
    simp [h0, h1, h2, h3, h4, hp, hn, Ne.symm h0, Scalar.select, IntOp.ori, IntOp.andi, IntOp.xori]

theorem addV_at : addV (F := Ideal) lv uv s bv (ix1 r) = summand (lv (ix1 r)) (uv (ix1 r)) (s (ix1 r)) (bv (ix1 r)) := by
  pointwise [addV, oneV, zeroV, lessV, greaterV, freeV, posV, negV, ratioV, loV, ofBits_64]
  unfold summand
  by_cases h0 : lv (ix1 r) = uv (ix1 r)
  · simp [h0]
  by_cases h2 : uv (ix1 r) * 64 ≤ bv (ix1 r)
  · simp [h0, h2, Ne.symm h0]
  by_cases h1 : bv (ix1 r) ≤ lv (ix1 r) * 64
  · simp [h0, h1, h2, Ne.symm h0]
  obtain ⟨hp, hn⟩ := dist_pos (t := s (ix1 r)) h1 h2
  by_cases h3 : s (ix1 r) < bv (ix1 r) <;> by_cases h4 : bv (ix1 r) < s (ix1 r) <;>
    simp [h0, h1, h2, h3, h4, hp, hn, Ne.symm h0, Scalar.select, IntOp.ori, IntOp.andi, IntOp.xori]

theorem newRow_at (al ad : FVec Ideal S16 .f32) (f : XBuf Ideal) (a b : ℕ) :
    newRow al ad f a b (ix2 0 r) = al (ix1 r) * f (ix a b r) + ad (ix1 r) := by
  pointwise [newRow, rowv]

theorem sumRows_at (f : XBuf Ideal) (b : ℕ) : sumRows f b (ix1 r) = ∑ k : Fin 64, f (ix k b r) := by
  pointwise [sumRows, accRows, lrow, rowv]
  simp only [Fin.sum_univ_succ, Fin.sum_univ_zero]
  simp
  ac_rfl

/-- The column group's start and the lane in it give back the column. -/
theorem ix_col (k : Fin 64) (j : Fin 512) : ix k (16 * (j.val / 16)) (j.val % 16) = ix2 k j := by
  funext a
  match a with
  | 0 => exact Fin.ext (Nat.mod_eq_of_lt k.isLt)
  | 1 => exact Fin.ext (by show (16 * (j.val / 16) + j.val % 16) % 512 = j.val; have := j.isLt; omega)

theorem laneIdx_col (j : Fin 512) : laneIdx (j.val - 16 * (j.val / 16)) = ix2 0 (⟨j.val % 16, Nat.mod_lt _ (by decide)⟩ : Fin 16) := by
  funext a
  match a with
  | 0 => rfl
  | 1 => exact Fin.ext (by show (j.val - 16 * (j.val / 16)) % 16 = j.val % 16; omega)

theorem lanes_col (g : S512.Idx → Elt Ideal .f32) (j : Fin 512) :
    lanes g (16 * (j.val / 16)) (ix1 (⟨j.val % 16, Nat.mod_lt _ (by decide)⟩ : Fin 16)) = g (ix1 j) := by
  refine congrArg g ?_
  funext a
  match a with
  | 0 => exact Fin.ext (by show (16 * (j.val / 16) + j.val % 16) % 512 = j.val; have := j.isLt; omega)

/-- One entry of a staged chunk once it is repaired. -/
theorem tileOut_at {L U : EReal} (hl : ∀ k : Fin 16, lv (ix1 k) = L) (hu : ∀ k : Fin 16, uv (ix1 k) = U)
    (g : S512.Idx → Elt Ideal .f32) (f : XBuf Ideal) (a : Fin 64) (j : Fin 512) :
    tileOut (F := Ideal) lv uv g f (ix2 a j) = repaired L U (∑ k : Fin 64, f (ix2 k j)) (g (ix1 j)) (f (ix2 a j)) := by
  have hr : (⟨j.val % 16, Nat.mod_lt _ (by decide)⟩ : Fin 16).val = j.val % 16 := rfl
  show newRow (alphaV lv uv (sumRows f (16 * (j.val / 16))) (lanes g (16 * (j.val / 16))))
    (addV lv uv (sumRows f (16 * (j.val / 16))) (lanes g (16 * (j.val / 16)))) f a.val (16 * (j.val / 16))
    (laneIdx (j.val - 16 * (j.val / 16))) = _
  rw [laneIdx_col, newRow_at, alphaV_at, addV_at, sumRows_at, factor_summand, hl, hu, lanes_col, hr, ix_col]
  simp only [ix_col]

/-- One entry of the array the SparseCore kernel leaves. -/
theorem scOut_at {L U : EReal} (l u : S64.Idx → Elt Ideal .f32) (hl : ∀ k : Fin 64, l (ix1 k) = L) (hu : ∀ k : Fin 64, u (ix1 k) = U)
    (x : S64x131072.Idx → Elt Ideal .f32) (b : S131072.Idx → Elt Ideal .f32) (a : Fin 64) (c : Fin 32768) (c' : Fin 131072) (hc : c'.val = c.val) :
    scOut (F := Ideal) (first16 l) (first16 u) x b (ix2 a c)
      = repaired L U (∑ k : Fin 64, x (ix2 k c')) (b (ix1 c')) (x (ix2 a c')) := by
  have hx : ∀ k : Fin 64, xChunk x (512 * (c.val / 512)) (ix2 k (⟨c.val % 512, Nat.mod_lt _ (by decide)⟩ : Fin 512)) = x (ix2 k c') := by
    intro k
    refine congrArg x ?_
    funext a
    match a with
    | 0 => rfl
    | 1 => exact Fin.ext (by show (512 * (c.val / 512) + c.val % 512) % 131072 = c'.val; have := c'.isLt; omega)
  have hb : bChunk b (512 * (c.val / 512)) (ix1 (⟨c.val % 512, Nat.mod_lt _ (by decide)⟩ : Fin 512)) = b (ix1 c') := by
    refine congrArg b ?_
    funext a
    match a with
    | 0 => exact Fin.ext (by show (512 * (c.val / 512) + c.val % 512) % 131072 = c'.val; have := c'.isLt; omega)
  have h16 : ∀ (w : S64.Idx → Elt Ideal .f32) (k : Fin 16), first16 w (ix1 k) = w (ix1 (⟨k.val % 64, Nat.mod_lt _ (by decide)⟩ : Fin 64)) := by
    intro w k
    refine congrArg w ?_
    funext a
    match a with
    | 0 => rfl
  have hj : scOut (F := Ideal) (first16 l) (first16 u) x b (ix2 a c)
      = tileOut (F := Ideal) (first16 l) (first16 u) (bChunk b (512 * (c.val / 512))) (xChunk x (512 * (c.val / 512)))
          (ix2 a (⟨c.val % 512, Nat.mod_lt _ (by decide)⟩ : Fin 512)) := by
    refine congrArg (tileOut (F := Ideal) _ _ _ _) ?_
    funext a
    match a with
    | 0 => rfl
    | 1 => rfl
  rw [hj, tileOut_at _ _ (fun k => (h16 l k).trans (hl _)) (fun k => (h16 u k).trans (hu _)), hb, hx]
  simp only [hx]

end Cert.Proof.Sc

end
end
-- ==== Proof.TcValue.lean ====
/- The TensorCore kernel's block at an index, over the extended reals: each entry is the repaired entry. -/
module

public import proofs.«01_k».proof.Proof.TcBody
public import proofs.«01_k».proof.Proof.Spec
public import Idealize.ShloMosaic.Lib.Pointwise

@[expose] public section

set_option maxRecDepth 16384

noncomputable section

namespace Cert.Proof.Sc

open Cert.KernelIdeal Cert.KernelIdeal.Gen
open Idealize.ShloMosaic
open Idealize.ShloMosaic.TcCoe

variable (x : Vec Ideal S64x4096 .f32) (b : Vec Ideal S1x4096 .f32) (v4 v6 : Vec Ideal S1x1 .f32)

/-- With equal bounds the block is the input's. -/
theorem tcBlock_eq (h : v6 (ix2 0 0) = v4 (ix2 0 0)) (r : Fin 64) (c : Fin 4096) : tcBlock (F := Ideal) x b v4 v6 (ix2 r c) = x (ix2 r c) := by
  have he : Scalar.cmpf (F := Ideal) .oeq (k1_pay4 v4) (k1_pay5 v6) = 1#1 := by
    pointwise [k1_pay4, k1_pay5]
    simp [h]
  unfold tcBlock
  rw [he]
  unfold k1_pay1
  simp only [Scalar.select, if_pos]
  pointwise [k1_pay2]
  show x (ix2 r c) * 1 + 0 = x (ix2 r c)
  simp

/-- With different bounds it is the repaired entry. -/
theorem tcBlock_ne (h : ¬ v6 (ix2 0 0) = v4 (ix2 0 0)) (r : Fin 64) (c : Fin 4096) : tcBlock (F := Ideal) x b v4 v6 (ix2 r c) =
    repaired (v4 (ix2 0 0)) (v6 (ix2 0 0)) (∑ k : Fin 64, x (ix2 k c)) (b (ix2 0 c)) (x (ix2 r c)) := by
  have he : Scalar.cmpf (F := Ideal) .oeq (k1_pay4 v4) (k1_pay5 v6) = 0#1 := by
    pointwise [k1_pay4, k1_pay5]
    simp [Ne.symm h]
  unfold tcBlock
  rw [he]
  unfold k1_pay1
  simp only [Scalar.select, show ¬ (0#1 : BitVec 1) = 1 by decide, if_false]
  pointwise [k1_pay2, k1_pay3, k1_pay4, k1_pay5, k1_pay6, k1_pay7, k1_pay8, k1_pay9, k1_pay10, k1_pay11, k1_pay12, k1_pay13, k1_pay14, k1_pay15, k1_pay16, k1_pay17]
  simp only [ofBits_64]
  generalize ∑ k : Fin 64, x (ix2 k c) = t
  generalize v4 (ix2 0 0) = L at h ⊢
  generalize v6 (ix2 0 0) = U at h ⊢
  generalize b (ix2 0 c) = bv
  by_cases h1 : U * 64 ≤ bv
  · by_cases h2 : bv ≤ L * 64 <;> simp [repaired, h, h1, h2, Scalar.select, IntOp.ori]
  by_cases h2 : bv ≤ L * 64
  · simp [repaired, h, h1, h2, Scalar.select, IntOp.ori, IntOp.andi, IntOp.xori]
  obtain ⟨hp, hn⟩ := dist_pos (t := t) h2 h1
  simp only [hp, hn]
  by_cases h3 : t < bv
  · simp [repaired, h, h1, h2, h3, not_lt_of_gt h3, Scalar.select, IntOp.ori, IntOp.andi, IntOp.xori, add_comm, mul_comm]
  by_cases h4 : bv < t
  · simp [repaired, h, h1, h2, h3, h4, Scalar.select, IntOp.ori, IntOp.andi, IntOp.xori, add_comm, mul_comm]
  · simp [repaired, h, h1, h2, h3, h4, Scalar.select, IntOp.ori, IntOp.andi, IntOp.xori]

theorem tcBlock_at (r : Fin 64) (c : Fin 4096) : tcBlock (F := Ideal) x b v4 v6 (ix2 r c)
    = repaired (v4 (ix2 0 0)) (v6 (ix2 0 0)) (∑ k : Fin 64, x (ix2 k c)) (b (ix2 0 c)) (x (ix2 r c)) := by
  by_cases h : v6 (ix2 0 0) = v4 (ix2 0 0)
  · rw [tcBlock_eq x b v4 v6 h, repaired, if_pos h]
  · exact tcBlock_ne x b v4 v6 h r c

end Cert.Proof.Sc

end
end
-- ==== Proof.TcArr.lean ====
/- The TensorCore kernel's output array after its region, over the extended reals: from the columns the blocks cover on, each
   entry is the repaired entry of the arrays the region finds. -/
module

public import proofs.«01_k».proof.Proof.TcRegion
public import proofs.«01_k».proof.Proof.TcValue
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.TcCoe
open Idealize.ShloMosaic.Pipeline (Dat)

/-- Where each window's block lies at each point. -/
theorem idx1 : ∀ t : Fin cfg1.N, win1_0.index t = ![0, 8 + t.val] ∧ win1_1.index t = ![0, 8 + t.val] ∧ win1_2.index t = ![0, 0]
    ∧ win1_3.index t = ![0, 0] ∧ win1_4.index t = ![0, 8 + t.val] :=
  (by decide +kernel : ∀ t : Fin grid1.N, _)

/-- The repaired array, from the transposed entries, the targets and the two bound rows. -/
def fixedUp (X : FVec Ideal S64x131072 .f32) (B : FVec Ideal S1x131072 .f32) (l u : FVec Ideal S1x64 .f32) : FVec Ideal S64x131072 .f32 :=
  fun i => repaired (l (ix2 0 0)) (u (ix2 0 0)) (∑ k : Fin 64, X (ix2 k (i 1))) (B (ix2 0 (i 1))) (X i)

theorem firstL_at (l : S1x64.Idx → Elt Ideal .f32) : firstL (F := Ideal) l (ix2 0 0) = l (ix2 0 0) := by
  refine congrArg l ?_
  funext a
  match a with
  | 0 => rfl
  | 1 => rfl

variable (V : Dev nD → Valuation τ sig (Elt Ideal)) (d : Dev nD)

theorem point (t : Fin cfg1.N) (y : S64x4096.Idx) :
    tcBlock (F := Ideal) (iblk V d 0 t) (iblk V d 1 t) (firstL (iblk V d 2 t)) (firstL (iblk V d 3 t)) y
      = fixedUp (V d (Proc.devRef .tc main_v0)) (V d (Proc.devRef .tc main_v1)) (V d (Proc.devRef .tc main_v2)) (V d (Proc.devRef .tc main_v3))
          (((cfg1.win 4).blk t).view.emb y) := by
  idx_vars y
  refine (tcBlock_at _ _ _ _ _ _).trans ?_
  rw [firstL_at, firstL_at]
  unfold fixedUp
  blk_point [iblk, idx1 t]

theorem arr_out : (dat V d).arrAt 4 cfg1.N = fun i => if 32768 ≤ (i 1 : ℕ) then
      fixedUp (V d (Proc.devRef .tc main_v0)) (V d (Proc.devRef .tc main_v1)) (V d (Proc.devRef .tc main_v2)) (V d (Proc.devRef .tc main_v3)) i
    else V d (Proc.devRef .tc main_v5) i := by
  refine (dat V d).arrAt_eq_of_coversWhere 4 _ (fun β => 8 ≤ β (1 : Fin 2)) (by decide +kernel) (fun t hf y => ?_)
    (fun j => by blk_simp [Pipeline.Window.cell_apply]; omega)
  blk_simp
  rw [after_4]
  exact point V d t y

end Cert.Proof.Sc

end
end
-- ==== Proof.KerValue.lean ====
/- The kernel's result at an index, over the extended reals: with equal bounds in every column it is the repaired entry. -/
module

public import proofs.«01_k».proof.Proof.ScRun
public import proofs.«01_k».proof.Proof.ScValue
public import proofs.«01_k».proof.Proof.TcArr

@[expose] public section

set_option maxRecDepth 16384

noncomputable section

namespace Cert.Proof.Sc

open Cert.KernelIdeal Cert.KernelIdeal.Gen
open Idealize.ShloMosaic
open Idealize.ShloMosaic.TcCoe

/-- The TensorCore kernel's array with the SparseCore kernel's put over its first columns, transposed back. -/
def joined (X : FVec Ideal S64x131072 .f32) (Y : FVec Ideal S64x32768 .f32) : FVec Ideal S131072x64 .f32 :=
  transpose S131072x64 [1, 0] (Host.dynamicUpdateSlice X Y (fun _ => 0) updateFits_S64x131072_S64x32768) transposes_S64x131072_S131072x64_1_0

/-- The update starts at the array's first entry. -/
theorem start_zero (h : S64x131072.rank = S64x32768.rank) (a : Fin 2) :
    Host.clampedStart S64x131072 S64x32768 h (fun _ => 0) a = 0 := by
  simp [Host.clampedStart]

theorem joined_lo (X : FVec Ideal S64x131072 .f32) (Y : FVec Ideal S64x32768 .f32) (r : Fin 131072) (c : Fin 64) (h : r.val < 32768) :
    joined X Y (ix2 r c) = Y (ix2 c (⟨r.val, h⟩ : Fin 32768)) := by
  pointwise [joined]
  rw [dif_pos ⟨by rw [start_zero]; omega, by rw [start_zero]; omega, by rw [start_zero]; omega⟩]
  refine congrArg Y ?_
  simp only [start_zero, Nat.sub_zero]

theorem joined_hi (X : FVec Ideal S64x131072 .f32) (Y : FVec Ideal S64x32768 .f32) (r : Fin 131072) (c : Fin 64) (h : ¬ r.val < 32768) :
    joined X Y (ix2 r c) = X (ix2 c r) := by
  pointwise [joined]
  rw [dif_neg fun hh => h (by have := hh.2.2; rw [start_zero] at this; omega)]

variable (m : (ℓ : Loc nD τ sig) → Buf (Elt Ideal) ℓ) (d : Dev nD)

theorem V3_v4 : V3 m d (Proc.devRef .tc main_v4) = scRes m d := by
  unfold V3 Vp
  rw [Pipeline.afterRegion_of_not_arr (dat (V2 m) d) (V2 m d) (fun w => by fin_cases w <;> decide), V2_v4]

theorem V3_v5 : V3 m d (Proc.devRef .tc main_v5) = (dat (V2 m) d).arrAt 4 cfg1.N := by
  unfold V3 Vp
  exact Pipeline.afterRegion_arr (dat (V2 m) d) (V2 m d) launch1.win.arr_inj 4

theorem V4_v7 : V4 m d (Proc.devRef .tc main_v7) = joined (V3 m d (Proc.devRef .tc main_v5)) (V3 m d (Proc.devRef .tc main_v4)) := by
  unfold V4
  rw [StableHlo.unary_result, StableHlo.binaryIndexed_result]
  rw [StableHlo.nullary_result_ne _ _ _ _ (r := main_v5) (by decide), StableHlo.nullary_result_ne _ _ _ _ (r := main_v5) (by decide),
    StableHlo.nullary_result_ne _ _ _ _ (r := main_v4) (by decide), StableHlo.nullary_result_ne _ _ _ _ (r := main_v4) (by decide)]
  unfold joined
  refine congrArg (fun s => transpose S131072x64 [1, 0] (Host.dynamicUpdateSlice _ _ s updateFits_S64x131072_S64x32768) transposes_S64x131072_S131072x64_1_0) ?_
  funext k
  fin_cases k
  · show BitVec.toInt ((op6.result (op5.result (V3 m d)) (Proc.devRef .tc main_c)) (Shape.Idx.first h_S_)) = 0
    rw [StableHlo.nullary_result_ne _ _ _ _ (by decide), StableHlo.nullary_result]
    rfl
  · show BitVec.toInt ((op6.result (op5.result (V3 m d)) (Proc.devRef .tc main_c_0)) (Shape.Idx.first h_S_)) = 0
    rw [StableHlo.nullary_result]
    rfl

theorem V2_v0 : V2 m d (Proc.devRef .tc main_v0) = xT m d := by
  rw [V2_keep m d _ (StableHlo.devRef_ne_of_ne (by decide)), V1_v0]

theorem V2_v1 : V2 m d (Proc.devRef .tc main_v1) = shapeCast S1x131072 (m ((d : Thread nD τ).loc main_arg1)) shapeCasts_S131072_S1x131072 := by
  rw [V2_keep m d _ (StableHlo.devRef_ne_of_ne (by decide))]
  unfold V1
  rw [StableHlo.reshape_result_ne _ _ _ _ _ _ _ (by decide), StableHlo.reshape_result_ne _ _ _ _ _ _ _ (by decide), StableHlo.reshape_result,
    StableHlo.unary_result_ne _ _ _ _ _ _ (by decide)]
  rfl

theorem V2_v2 : V2 m d (Proc.devRef .tc main_v2) = shapeCast S1x64 (m ((d : Thread nD τ).loc main_arg2)) shapeCasts_S64_S1x64 := by
  rw [V2_keep m d _ (StableHlo.devRef_ne_of_ne (by decide))]
  unfold V1
  rw [StableHlo.reshape_result_ne _ _ _ _ _ _ _ (by decide), StableHlo.reshape_result, StableHlo.reshape_result_ne _ _ _ _ _ _ _ (by decide),
    StableHlo.unary_result_ne _ _ _ _ _ _ (by decide)]
  rfl

theorem V2_v3 : V2 m d (Proc.devRef .tc main_v3) = shapeCast S1x64 (m ((d : Thread nD τ).loc main_arg3)) shapeCasts_S64_S1x64 := by
  rw [V2_keep m d _ (StableHlo.devRef_ne_of_ne (by decide))]
  unfold V1
  rw [StableHlo.reshape_result, StableHlo.reshape_result_ne _ _ _ _ _ _ _ (by decide), StableHlo.reshape_result_ne _ _ _ _ _ _ _ (by decide),
    StableHlo.unary_result_ne _ _ _ _ _ _ (by decide)]
  rfl

/-! ## The result -/

/-- One entry of the SparseCore kernel's array, the arrays it reads being the arguments. -/
theorem scRes_at {L U : EReal} (x : FVec Ideal S131072x64 .f32) (b : FVec Ideal S131072 .f32) (l u : FVec Ideal S64 .f32)
    (hl : ∀ k : Fin 64, l (ix1 k) = L) (hu : ∀ k : Fin 64, u (ix1 k) = U) (r : Fin 131072) (c : Fin 64) (h : r.val < 32768) :
    scOut (F := Ideal) (first16 l) (first16 u) (transpose S64x131072 [1, 0] x transposes_S131072x64_S64x131072_1_0) b (ix2 c (⟨r.val, h⟩ : Fin 32768))
      = repaired L U (∑ k : Fin 64, x (ix2 r k)) (b (ix1 r)) (x (ix2 r c)) := by
  refine (scOut_at l u hl hu _ b c ⟨r.val, h⟩ r rfl).trans ?_
  pointwise

/-- One entry of the TensorCore kernel's, likewise. -/
theorem fixedUp_at {L U : EReal} (x : FVec Ideal S131072x64 .f32) (b : FVec Ideal S131072 .f32) (l u : FVec Ideal S64 .f32)
    (hl : ∀ k : Fin 64, l (ix1 k) = L) (hu : ∀ k : Fin 64, u (ix1 k) = U) (r : Fin 131072) (c : Fin 64) :
    fixedUp (transpose S64x131072 [1, 0] x transposes_S131072x64_S64x131072_1_0) (shapeCast S1x131072 b shapeCasts_S131072_S1x131072)
        (shapeCast S1x64 l shapeCasts_S64_S1x64) (shapeCast S1x64 u shapeCasts_S64_S1x64) (ix2 c r)
      = repaired L U (∑ k : Fin 64, x (ix2 r k)) (b (ix1 r)) (x (ix2 r c)) := by
  pointwise [fixedUp]
  rw [hl, hu]

theorem result_at {L U : EReal} (x : FVec Ideal S131072x64 .f32) (b : FVec Ideal S131072 .f32) (l u : FVec Ideal S64 .f32)
    (hx : m ((d : Thread nD τ).loc main_arg0) = x) (hb : m ((d : Thread nD τ).loc main_arg1) = b)
    (hml : m ((d : Thread nD τ).loc main_arg2) = l) (hmu : m ((d : Thread nD τ).loc main_arg3) = u)
    (hl : ∀ k : Fin 64, l (ix1 k) = L) (hu : ∀ k : Fin 64, u (ix1 k) = U) (r : Fin 131072) (c : Fin 64) :
    V4 m d (Proc.devRef .tc main_v7) (ix2 r c) = repaired L U (∑ k : Fin 64, x (ix2 r k)) (b (ix1 r)) (x (ix2 r c)) := by
  subst hx hb hml hmu
  rw [V4_v7]
  by_cases h : r.val < 32768
  · rw [joined_lo _ _ r c h, V3_v4]
    exact scRes_at _ _ _ _ hl hu r c h
  · rw [joined_hi _ _ r c h, V3_v5, arr_out]
    refine (if_pos (by show 32768 ≤ r.val; omega)).trans ?_
    rw [V2_v0, V2_v1, V2_v2, V2_v3]
    exact fixedUp_at _ _ _ _ hl hu r c

end Cert.Proof.Sc

end
end
-- ==== Proof.RefValue.lean ====
/- The reference's result at an index, over the extended reals: with equal bounds in every column it is the repaired entry. -/
module

public import proofs.«01_k».proof.Proof.RefRun
public import proofs.«01_k».proof.Proof.Spec
public import Idealize.ShloMosaic.Lib.Pointwise

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable (g : IVec S64 1) (p q sel : IVec S131072 1) (v s b : FVec Ideal S131072 .f32) (l u : FVec Ideal S64 .f32)
  (tot : FVec Ideal S_ .f32) (x z : FVec Ideal S131072x64 .f32) (r : Fin 131072) (c : Fin 64)

/-! ## Each value at an index -/

theorem fixed_at : fixed (F := Ideal) l u (ix1 c) = BitVec.ofBool (decide (u (ix1 c) = l (ix1 c))) := by
  pointwise [fixed]

theorem budget_at : budget (F := Ideal) g x b (ix1 r) = b (ix1 r) - ∑ k : Fin 64, Scalar.select (g (ix1 k)) (x (ix2 r k)) 0 := by
  pointwise [budget, rowSum, cols, zeros]

theorem free_at : free (F := Ideal) g l (ix1 c) = Scalar.select (g (ix1 c)) 0 (l (ix1 c)) := by
  pointwise [free]

theorem total_at : total (F := Ideal) l ix0 = ∑ k : Fin 64, l (ix1 k) := by
  pointwise [total]

theorem rowSum_at : rowSum (F := Ideal) x (ix1 r) = ∑ k : Fin 64, x (ix2 r k) := by
  pointwise [rowSum]

theorem under_at : under (F := Ideal) v l (ix1 r) = BitVec.ofBool (decide (v (ix1 r) ≤ ∑ k : Fin 64, l (ix1 k))) := by
  pointwise [under, every, total]

theorem over_at : over (F := Ideal) v u (ix1 r) = BitVec.ofBool (decide (∑ k : Fin 64, u (ix1 k) ≤ v (ix1 r))) := by
  pointwise [over, every, total]

theorem clamped_at : clamped (F := Ideal) p q g l u x (ix2 r c)
    = Scalar.select (q (ix1 r)) (u (ix1 c)) (Scalar.select (p (ix1 r)) (l (ix1 c)) (Scalar.select (g (ix1 c)) 0 (x (ix2 r c)))) := by
  pointwise [clamped, rows, cols, zeros]

theorem kept_at : (select (cols (F := Ideal) (t := .i1) g) x z : FVec Ideal S131072x64 .f32) (ix2 r c) = Scalar.select (g (ix1 c)) (x (ix2 r c)) (z (ix2 r c)) := by
  pointwise [cols]

theorem moved_at : moved (F := Ideal) sel v s tot l x (ix2 r c)
    = Scalar.select (sel (ix1 r)) (Ideal.div (v (ix1 r) - s (ix1 r)) (tot ix0 - s (ix1 r)) * l (ix1 c)
        + (1 - Ideal.div (v (ix1 r) - s (ix1 r)) (tot ix0 - s (ix1 r))) * x (ix2 r c)) (x (ix2 r c)) := by
  pointwise [moved, rows, cols, ratio, every]

theorem up_at : (andi (cmpf .ogt v s) (inside (F := Ideal) p q) : IVec S131072 1) (ix1 r)
    = IntOp.andi (BitVec.ofBool (decide (s (ix1 r) < v (ix1 r)))) (IntOp.andi (~~~ p (ix1 r)) (~~~ q (ix1 r))) := by
  pointwise [inside]

theorem down_at : (andi (cmpf .olt v s) (inside (F := Ideal) p q) : IVec S131072 1) (ix1 r)
    = IntOp.andi (BitVec.ofBool (decide (v (ix1 r) < s (ix1 r)))) (IntOp.andi (~~~ p (ix1 r)) (~~~ q (ix1 r))) := by
  pointwise [inside]

/-! ## The result -/

/-- The sum of sixty-four copies. -/
theorem sum_const (L : EReal) : ∑ _k : Fin 64, L = L * 64 := by
  rw [Finset.sum_const, Finset.card_univ, Fintype.card_fin, EReal.nsmul_eq_mul, mul_comm]; rfl

theorem result_at {L U : EReal} (hl : ∀ k : Fin 64, l (ix1 k) = L) (hu : ∀ k : Fin 64, u (ix1 k) = U) :
    result (F := Ideal) x b l u (ix2 r c) = repaired L U (∑ k : Fin 64, x (ix2 r k)) (b (ix1 r)) (x (ix2 r c)) := by
  unfold result
  dsimp only
  rw [kept_at, fixed_at, hl, hu]
  by_cases hUL : U = L
  · simp [repaired, hUL, Scalar.select]
  have hg : ∀ k : Fin 64, fixed (F := Ideal) l u (ix1 k) = 0#1 := by
    intro k; rw [fixed_at, hl, hu]; simp [hUL]
  generalize fixed (F := Ideal) l u = g at hg
  have hb : budget (F := Ideal) g x b (ix1 r) = b (ix1 r) := by
    rw [budget_at]; simp [hg, Scalar.select]
  generalize budget (F := Ideal) g x b = bb at hb
  have hlo : ∀ k : Fin 64, free (F := Ideal) g l (ix1 k) = L := by
    intro k; rw [free_at, hg, hl]; simp [Scalar.select]
  have hhi : ∀ k : Fin 64, free (F := Ideal) g u (ix1 k) = U := by
    intro k; rw [free_at, hg, hu]; simp [Scalar.select]
  generalize free (F := Ideal) g l = lo at hlo
  generalize free (F := Ideal) g u = hi at hhi
  have hle := under_at bb lo r
  have hge := over_at bb hi r
  simp only [hb, hlo, hhi, sum_const] at hle hge
  generalize under (F := Ideal) bb lo = le at hle
  generalize over (F := Ideal) bb hi = ge at hge
  have hy := fun k => clamped_at g le ge lo hi x r k
  simp only [hlo, hhi, hg, hle, hge] at hy
  generalize clamped (F := Ideal) le ge g lo hi x = y at hy
  have htl : total (F := Ideal) lo ix0 = L * 64 := by rw [total_at]; simp only [hlo, sum_const]
  have hth : total (F := Ideal) hi ix0 = U * 64 := by rw [total_at]; simp only [hhi, sum_const]
  have hs := rowSum_at y r
  generalize rowSum (F := Ideal) y = s at hs
  rw [moved_at, moved_at, up_at, down_at, hle, hge, htl, hth, hlo, hhi, hb]
  by_cases h1 : U * 64 ≤ b (ix1 r)
  · have hyc := hy c
    simp [h1, Scalar.select] at hyc
    simp [repaired, hUL, h1, hyc, Scalar.select, IntOp.andi]
  by_cases h2 : b (ix1 r) ≤ L * 64
  · have hyc := hy c
    simp [h1, h2, Scalar.select] at hyc
    simp [repaired, hUL, h1, h2, hyc, Scalar.select, IntOp.andi]
  have hyx : ∀ k, y (ix2 r k) = x (ix2 r k) := by
    intro k; rw [hy k]; simp [h1, h2, Scalar.select]
  simp only [hyx] at hs
  rw [hyx, hs]
  generalize ∑ k : Fin 64, x (ix2 r k) = t
  by_cases h3 : t < b (ix1 r)
  · simp [repaired, hUL, h1, h2, h3, not_lt_of_gt h3, Scalar.select, IntOp.andi]
  by_cases h4 : b (ix1 r) < t
  · simp [repaired, hUL, h1, h2, h3, h4, Scalar.select, IntOp.andi]
  · simp [repaired, hUL, h1, h2, h3, h4, Scalar.select, IntOp.andi]

end Cert.Proof.Ref

end
end
-- ==== Proof.Algebraic.lean ====
/- The value claim: over the extended reals, with bounds the same in every column, the kernel and the reference end with the
   same array. -/
module

public import proofs.«01_k».proof.Proof.Bounds
public import proofs.«01_k».proof.Proof.Frames
public import proofs.«01_k».proof.Proof.KerValue
public import proofs.«01_k».proof.Proof.RefValue

@[expose] public section

noncomputable section

namespace Cert.Proof

open Idealize.ShloMosaic Idealize.SL.Sem

theorem frame_kernelIdeal_pre [hKernelIdeal : Cert.KernelIdeal.Facts] [hPre : Cert.Pre_uniform_bounds.Facts] :
    Cert.quiescent_KernelIdeal_pre_uniform_bounds := fun m g _ => frame_any (F := Ideal) m g

theorem frame_reference_pre [hReferenceIdeal : Cert.ReferenceIdeal.Facts] [hPre : Cert.Pre_uniform_bounds.Facts] :
    Cert.quiescent_ReferenceIdeal_pre_uniform_bounds := fun m g _ =>
  (θ_run _ _ _).mono (fun r h => ⟨fun c => (h c).2, sem_eq_zero_of_no_sems (by decide) r.2⟩) (Ref.run (F := Ideal) m g)

/-- The kernel's array is the reference's result of the kernel's arguments. -/
theorem same_array [hPre : Cert.Pre_uniform_bounds.Facts]
    (m : (ℓ : Loc Cert.KernelIdeal.nD Cert.KernelIdeal.τ Cert.KernelIdeal.sig) → Buf (Elt Ideal) ℓ) (h : Cert.Pre_KernelIdeal_uniform_bounds m)
    (c : Dev Cert.KernelIdeal.nD) (x : FVec Ideal Cert.ReferenceIdeal.S131072x64 .f32) (b : FVec Ideal Cert.ReferenceIdeal.S131072 .f32)
    (l u : FVec Ideal Cert.ReferenceIdeal.S64 .f32)
    (hx : x = m ((c.tc : Thread Cert.KernelIdeal.nD Cert.KernelIdeal.τ).loc Cert.KernelIdeal.main_arg0))
    (hb : b = m ((c.tc : Thread Cert.KernelIdeal.nD Cert.KernelIdeal.τ).loc Cert.KernelIdeal.main_arg1))
    (hl : l = m ((c.tc : Thread Cert.KernelIdeal.nD Cert.KernelIdeal.τ).loc Cert.KernelIdeal.main_arg2))
    (hu : u = m ((c.tc : Thread Cert.KernelIdeal.nD Cert.KernelIdeal.τ).loc Cert.KernelIdeal.main_arg3)) :
    Ref.result (F := Ideal) x b l u = Sc.V4 m c (Proc.devRef .tc Cert.KernelIdeal.main_v7) := by
  have hc := h c
  rw [← hx, ← hb, ← hl, ← hu] at hc
  have hs := bounds_same x b l u hc
  funext i
  obtain ⟨r, k, rfl⟩ : ∃ (r : Fin 131072) (k : Fin 64), i = ix2 r k := ⟨i 0, i 1, by
    funext a
    match a with
    | 0 => rfl
    | 1 => rfl⟩
  exact (Ref.result_at b l u x r k (fun k => (hs k).1) (fun k => (hs k).2)).trans
    (Sc.result_at m c x b l u hx.symm hb.symm hl.symm hu.symm (fun k => (hs k).1) (fun k => (hs k).2) r k).symm

theorem algebraic [hKernelIdeal : Cert.KernelIdeal.Facts] [hReferenceIdeal : Cert.ReferenceIdeal.Facts] [hPre : Cert.Pre_uniform_bounds.Facts] :
    Cert.algebraic_KernelIdeal_ReferenceIdeal_pre_uniform_bounds := by
  intro m g m' g' h hm
  refine ⟨fun c => Sc.V4 m c (Proc.devRef .tc Cert.KernelIdeal.main_v7),
    (θ_run _ _ _).mono (fun _ hr => hr.1) (Sc.run_main m g), (θ_run _ _ _).mono (fun r hr c => ?_) (Ref.run (F := Ideal) m' g')⟩
  obtain ⟨hv, hk⟩ := hr c
  obtain ⟨h0, h1, h2, h3⟩ := hm c
  exact ⟨hv.trans (same_array m h c _ _ _ _ h0 h1 h2 h3), hk⟩

end Cert.Proof

end
end
-- ==== Proof.lean ====
/- The claim: the kernel and the reference run, keep their arguments and end with every semaphore at zero, and over the extended
   reals, with bounds the same in every column, they end with the same array. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, bounds_facts, frame_kernel, frame_kernelIdeal,
    frame_kernelIdeal_pre, frame_reference, frame_reference_pre, trivial, algebraic⟩

end Cert.Proof

end
end
